-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_unmasked [hPre_finite_unmasked : Cert.Pre_finite_unmasked.Facts] (m : (ℓ : Loc Cert.KernelIdeal.nD Cert.KernelIdeal.τ Cert.KernelIdeal.sig) → Buf (Elt Ideal) ℓ) : Prop :=
  ∀ c : Dev Cert.KernelIdeal.nD,
    (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_unmasked [hPre_finite_unmasked : Cert.Pre_finite_unmasked.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_finite_unmasked [hKernelIdeal : Cert.KernelIdeal.Facts] [hPre_finite_unmasked : Cert.Pre_finite_unmasked.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_unmasked m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_finite_unmasked [hReferenceIdeal : Cert.ReferenceIdeal.Facts] [hPre_finite_unmasked : Cert.Pre_finite_unmasked.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_unmasked m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_finite_unmasked [hKernelIdeal : Cert.KernelIdeal.Facts] [hReferenceIdeal : Cert.ReferenceIdeal.Facts] [hPre_finite_unmasked : Cert.Pre_finite_unmasked.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_unmasked m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_unmasked : Cert.Pre_finite_unmasked.Facts),
    quiescent_Kernel (hKernel := hKernel)
    ∧ quiescent_KernelIdeal (hKernelIdeal := hKernelIdeal)
    ∧ quiescent_KernelIdeal_pre_finite_unmasked (hKernelIdeal := hKernelIdeal) (hPre_finite_unmasked := hPre_finite_unmasked)
    ∧ quiescent_ReferenceIdeal (hReferenceIdeal := hReferenceIdeal)
    ∧ quiescent_ReferenceIdeal_pre_finite_unmasked (hReferenceIdeal := hReferenceIdeal) (hPre_finite_unmasked := hPre_finite_unmasked)
    ∧ preserves_Kernel_KernelIdeal
    ∧ algebraic_KernelIdeal_ReferenceIdeal_pre_finite_unmasked (hKernelIdeal := hKernelIdeal) (hReferenceIdeal := hReferenceIdeal) (hPre_finite_unmasked := hPre_finite_unmasked)
-- ==== Pre_finite_unmasked.lean ====
abbrev S2x1024x1024x6 : Shape := ⟨4, ![2, 1024, 1024, 6]⟩
abbrev S2x1024x512 : Shape := ⟨3, ![2, 1024, 512]⟩
abbrev S2x1024 : Shape := ⟨2, ![2, 1024]⟩
abbrev S6x16 : Shape := ⟨2, ![6, 16]⟩
abbrev S16 : Shape := ⟨1, ![16]⟩
abbrev S16x16 : Shape := ⟨2, ![16, 16]⟩
abbrev S16x8 : Shape := ⟨2, ![16, 8]⟩
abbrev S8 : Shape := ⟨1, ![8]⟩
abbrev S512x512 : Shape := ⟨2, ![512, 512]⟩
abbrev S512 : Shape := ⟨1, ![512]⟩
abbrev S_ : Shape := ⟨0, ![]⟩

class Facts : Prop where
  bcast_S_S2x1024x1024x6 : S_.BroadcastsInDim S2x1024x1024x6 (![] : Fin 0 → Fin S2x1024x1024x6.rank)
  bcast_S_S2x1024x512 : S_.BroadcastsInDim S2x1024x512 (![] : Fin 0 → Fin S2x1024x512.rank)
  bcast_S_S6x16 : S_.BroadcastsInDim S6x16 (![] : Fin 0 → Fin S6x16.rank)
  bcast_S_S16 : S_.BroadcastsInDim S16 (![] : Fin 0 → Fin S16.rank)
  bcast_S_S16x16 : S_.BroadcastsInDim S16x16 (![] : Fin 0 → Fin S16x16.rank)
  bcast_S_S16x8 : S_.BroadcastsInDim S16x8 (![] : Fin 0 → Fin S16x8.rank)
  bcast_S_S8 : S_.BroadcastsInDim S8 (![] : Fin 0 → Fin S8.rank)
  bcast_S_S512x512 : S_.BroadcastsInDim S512x512 (![] : Fin 0 → Fin S512x512.rank)
  bcast_S_S512 : S_.BroadcastsInDim S512 (![] : Fin 0 → Fin S512.rank)

variable [Facts]

def fn_part1 {F : FTy → Type} [FloatOps F] (main_arg2 : IVec S2x1024 1) (main_arg7 : FVec F S16x8 .f32) (main_arg8 : FVec F S8 .f32) (main_arg9 : FVec F S512x512 .f32) (main_arg10 : FVec F S512 .f32) (main_arg11 : FVec F S512x512 .f32) (main_arg12 : FVec F S512 .f32) (main_v2 : IVec S2x1024x1024x6 1) (main_v5 : IVec S2x1024x512 1) (main_v8 : IVec S6x16 1) (main_v11 : IVec S16 1) (main_v14 : IVec S16x16 1) (main_v17 : IVec S16 1) : IVec S2x1024 1 × IVec S2x1024x1024x6 1 × IVec S2x1024x512 1 × IVec S6x16 1 × IVec S16 1 × IVec S16x16 1 × IVec S16 1 × IVec S16x8 1 × IVec S8 1 × IVec S512x512 1 × IVec S512 1 × IVec S512x512 1 × IVec S512 1 :=
  let main_v18 : FVec F S16x8 .f32 := Host.absf main_arg7
  let main_cst_5 : FVec F S_ .f32 := constant S_ .f32 0x7F800000#32
  let main_v19 : FVec F S16x8 .f32 := broadcastInDim S16x8 ![] bcast_S_S16x8 main_cst_5
  let main_v20 : IVec S16x8 1 := cmpf .olt main_v18 main_v19
  let main_v21 : FVec F S8 .f32 := Host.absf main_arg8
  let main_cst_6 : FVec F S_ .f32 := constant S_ .f32 0x7F800000#32
  let main_v22 : FVec F S8 .f32 := broadcastInDim S8 ![] bcast_S_S8 main_cst_6
  let main_v23 : IVec S8 1 := cmpf .olt main_v21 main_v22
  let main_v24 : FVec F S512x512 .f32 := Host.absf main_arg9
  let main_cst_7 : FVec F S_ .f32 := constant S_ .f32 0x7F800000#32
  let main_v25 : FVec F S512x512 .f32 := broadcastInDim S512x512 ![] bcast_S_S512x512 main_cst_7
  let main_v26 : IVec S512x512 1 := cmpf .olt main_v24 main_v25
  let main_v27 : FVec F S512 .f32 := Host.absf main_arg10
  let main_cst_8 : FVec F S_ .f32 := constant S_ .f32 0x7F800000#32
  let main_v28 : FVec F S512 .f32 := broadcastInDim S512 ![] bcast_S_S512 main_cst_8
  let main_v29 : IVec S512 1 := cmpf .olt main_v27 main_v28
  let main_v30 : FVec F S512x512 .f32 := Host.absf main_arg11
  let main_cst_9 : FVec F S_ .f32 := constant S_ .f32 0x7F800000#32
  let main_v31 : FVec F S512x512 .f32 := broadcastInDim S512x512 ![] bcast_S_S512x512 main_cst_9
  let main_v32 : IVec S512x512 1 := cmpf .olt main_v30 main_v31
  let main_v33 : FVec F S512 .f32 := Host.absf main_arg12
  let main_cst_10 : FVec F S_ .f32 := constant S_ .f32 0x7F800000#32
  let main_v34 : FVec F S512 .f32 := broadcastInDim S512 ![] bcast_S_S512 main_cst_10
  let main_v35 : IVec S512 1 := cmpf .olt main_v33 main_v34
  (main_arg2, main_v2, main_v5, main_v8, main_v11, main_v14, main_v17, main_v20, main_v23, main_v26, main_v29, main_v32, main_v35)

def fn {F : FTy → Type} [FloatOps F] (main_arg0 : FVec F S2x1024x1024x6 .f32) (main_arg1 : FVec F S2x1024x512 .f32) (main_arg2 : IVec S2x1024 1) (main_arg3 : FVec F S6x16 .f32) (main_arg4 : FVec F S16 .f32) (main_arg5 : FVec F S16x16 .f32) (main_arg6 : FVec F S16 .f32) (main_arg7 : FVec F S16x8 .f32) (main_arg8 : FVec F S8 .f32) (main_arg9 : FVec F S512x512 .f32) (main_arg10 : FVec F S512 .f32) (main_arg11 : FVec F S512x512 .f32) (main_arg12 : FVec F S512 .f32) (main_arg13 : FVec F S512x512 .f32) (main_arg14 : FVec F S512 .f32) (main_arg15 : FVec F S512x512 .f32) (main_arg16 : FVec F S512 .f32) : IVec S2x1024 1 × IVec S2x1024x1024x6 1 × IVec S2x1024x512 1 × IVec S6x16 1 × IVec S16 1 × IVec S16x16 1 × IVec S16 1 × IVec S16x8 1 × IVec S8 1 × IVec S512x512 1 × IVec S512 1 × IVec S512x512 1 × IVec S512 1 :=
  let main_v0 : FVec F S2x1024x1024x6 .f32 := Host.absf main_arg0
  let main_cst : FVec F S_ .f32 := constant S_ .f32 0x7F800000#32
  let main_v1 : FVec F S2x1024x1024x6 .f32 := broadcastInDim S2x1024x1024x6 ![] bcast_S_S2x1024x1024x6 main_cst
  let main_v2 : IVec S2x1024x1024x6 1 := cmpf .olt main_v0 main_v1
  let main_v3 : FVec F S2x1024x512 .f32 := Host.absf main_arg1
  let main_cst_0 : FVec F S_ .f32 := constant S_ .f32 0x7F800000#32
  let main_v4 : FVec F S2x1024x512 .f32 := broadcastInDim S2x1024x512 ![] bcast_S_S2x1024x512 main_cst_0
  let main_v5 : IVec S2x1024x512 1 := cmpf .olt main_v3 main_v4
  let main_v6 : FVec F S6x16 .f32 := Host.absf main_arg3
  let main_cst_1 : FVec F S_ .f32 := constant S_ .f32 0x7F800000#32
  let main_v7 : FVec F S6x16 .f32 := broadcastInDim S6x16 ![] bcast_S_S6x16 main_cst_1
  let main_v8 : IVec S6x16 1 := cmpf .olt main_v6 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_v12 : FVec F S16x16 .f32 := Host.absf main_arg5
  let main_cst_3 : FVec F S_ .f32 := constant S_ .f32 0x7F800000#32
  let main_v13 : FVec F S16x16 .f32 := broadcastInDim S16x16 ![] bcast_S_S16x16 main_cst_3
  let main_v14 : IVec S16x16 1 := cmpf .olt main_v12 main_v13
  let main_v15 : FVec F S16 .f32 := Host.absf main_arg6
  let main_cst_4 : FVec F S_ .f32 := constant S_ .f32 0x7F800000#32
  let main_v16 : FVec F S16 .f32 := broadcastInDim S16 ![] bcast_S_S16 main_cst_4
  let main_v17 : IVec S16 1 := cmpf .olt main_v15 main_v16
  fn_part1 (F := F) main_arg2 main_arg7 main_arg8 main_arg9 main_arg10 main_arg11 main_arg12 main_v2 main_v5 main_v8 main_v11 main_v14 main_v17
-- ==== Kernel.lean ====
abbrev S2x1024x1024x6 : Shape := ⟨4, ![2, 1024, 1024, 6]⟩
abbrev S2x1024x512 : Shape := ⟨3, ![2, 1024, 512]⟩
abbrev S2x1024 : Shape := ⟨2, ![2, 1024]⟩
abbrev S6x16 : Shape := ⟨2, ![6, 16]⟩
abbrev S16 : Shape := ⟨1, ![16]⟩
abbrev S16x16 : Shape := ⟨2, ![16, 16]⟩
abbrev S16x8 : Shape := ⟨2, ![16, 8]⟩
abbrev S8 : Shape := ⟨1, ![8]⟩
abbrev S512x512 : Shape := ⟨2, ![512, 512]⟩
abbrev S512 : Shape := ⟨1, ![512]⟩
abbrev S2x6x1024x1024 : Shape := ⟨4, ![2, 6, 1024, 1024]⟩
abbrev S16x1 : Shape := ⟨2, ![16, 1]⟩
abbrev S8x1 : Shape := ⟨2, ![8, 1]⟩
abbrev S1x512 : Shape := ⟨2, ![1, 512]⟩
abbrev S1x6x256x1024 : Shape := ⟨4, ![1, 6, 256, 1024]⟩
abbrev S1x1024x512 : Shape := ⟨3, ![1, 1024, 512]⟩
abbrev S1x256x512 : Shape := ⟨3, ![1, 256, 512]⟩
abbrev S1024x512 : Shape := ⟨2, ![1024, 512]⟩
abbrev S256x512 : Shape := ⟨2, ![256, 512]⟩
abbrev S6x256x1024 : Shape := ⟨3, ![6, 256, 1024]⟩
abbrev S6x262144 : Shape := ⟨2, ![6, 262144]⟩
abbrev S16x262144 : Shape := ⟨2, ![16, 262144]⟩
abbrev S8x262144 : Shape := ⟨2, ![8, 262144]⟩
abbrev S256x64 : Shape := ⟨2, ![256, 64]⟩
abbrev S1024x64 : Shape := ⟨2, ![1024, 64]⟩
abbrev S256x1024 : Shape := ⟨2, ![256, 1024]⟩
abbrev S8x256x1024 : Shape := ⟨3, ![8, 256, 1024]⟩
abbrev S1x256x1024 : Shape := ⟨3, ![1, 256, 1024]⟩
abbrev S8x256 : Shape := ⟨2, ![8, 256]⟩
abbrev S8x256x1 : Shape := ⟨3, ![8, 256, 1]⟩
abbrev S1x256x1 : Shape := ⟨3, ![1, 256, 1]⟩
abbrev S256x1 : Shape := ⟨2, ![256, 1]⟩

abbrev nBuf : Space → Nat
  | .hbm => 26
  | .vmem => 22
  | .smem => 0
  | _ => 0

abbrev bufTy : (tb : Table) → Fin (tcTables nBuf tb) → BufTy
  | .hbm, ⟨0, _⟩ => ⟨S2x1024x1024x6, .f32⟩
  | .hbm, ⟨1, _⟩ => ⟨S2x1024x512, .f32⟩
  | .hbm, ⟨2, _⟩ => ⟨S2x1024, .i1⟩
  | .hbm, ⟨3, _⟩ => ⟨S6x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S16x8, .f32⟩
  | .hbm, ⟨8, _⟩ => ⟨S8, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S512x512, .f32⟩
  | .hbm, ⟨14, _⟩ => ⟨S512, .f32⟩
  | .hbm, ⟨15, _⟩ => ⟨S512x512, .f32⟩
  | .hbm, ⟨16, _⟩ => ⟨S512, .f32⟩
  | .hbm, ⟨17, _⟩ => ⟨S2x6x1024x1024, .f32⟩
  | .hbm, ⟨18, _⟩ => ⟨S16x1, .f32⟩
  | .hbm, ⟨19, _⟩ => ⟨S16x1, .f32⟩
  | .hbm, ⟨20, _⟩ => ⟨S8x1, .f32⟩
  | .hbm, ⟨21, _⟩ => ⟨S1x512, .f32⟩
  | .hbm, ⟨22, _⟩ => ⟨S1x512, .f32⟩
  | .hbm, ⟨23, _⟩ => ⟨S1x512, .f32⟩
  | .hbm, ⟨24, _⟩ => ⟨S1x512, .f32⟩
  | .hbm, ⟨25, _⟩ => ⟨S2x1024x512, .f32⟩
  | .local _ .vmem, ⟨0, _⟩ => ⟨S1x6x256x1024, .f32⟩
  | .local _ .vmem, ⟨1, _⟩ => ⟨S1x6x256x1024, .f32⟩
  | .local _ .vmem, ⟨2, _⟩ => ⟨S1x1024x512, .f32⟩
  | .local _ .vmem, ⟨3, _⟩ => ⟨S1x1024x512, .f32⟩
  | .local _ .vmem, ⟨4, _⟩ => ⟨S6x16, .f32⟩
  | .local _ .vmem, ⟨5, _⟩ => ⟨S16x1, .f32⟩
  | .local _ .vmem, ⟨6, _⟩ => ⟨S16x16, .f32⟩
  | .local _ .vmem, ⟨7, _⟩ => ⟨S16x1, .f32⟩
  | .local _ .vmem, ⟨8, _⟩ => ⟨S16x8, .f32⟩
  | .local _ .vmem, ⟨9, _⟩ => ⟨S8x1, .f32⟩
  | .local _ .vmem, ⟨10, _⟩ => ⟨S512x512, .f32⟩
  | .local _ .vmem, ⟨11, _⟩ => ⟨S1x512, .f32⟩
  | .local _ .vmem, ⟨12, _⟩ => ⟨S512x512, .f32⟩
  | .local _ .vmem, ⟨13, _⟩ => ⟨S1x512, .f32⟩
  | .local _ .vmem, ⟨14, _⟩ => ⟨S512x512, .f32⟩
  | .local _ .vmem, ⟨15, _⟩ => ⟨S1x512, .f32⟩
  | .local _ .vmem, ⟨16, _⟩ => ⟨S512x512, .f32⟩
  | .local _ .vmem, ⟨17, _⟩ => ⟨S1x512, .f32⟩
  | .local _ .vmem, ⟨18, _⟩ => ⟨S1x256x512, .f32⟩
  | .local _ .vmem, ⟨19, _⟩ => ⟨S1x256x512, .f32⟩
  | .local _ .vmem, ⟨20, _⟩ => ⟨S1024x512, .f32⟩
  | .local _ .vmem, ⟨21, _⟩ => ⟨S1024x512, .f32⟩
  | _, _ => ⟨S2x1024x1024x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19

abbrev nD : Nat := 1
abbrev τ : Topo := Topo.v7x

variable {F : FTy → Type} [FloatOps F]

abbrev grid0 : Pipeline.Grid := ⟨2, ![2, 4], ![false, false]⟩

def k0_off1 (i : grid0.Coords) : Fin 3 → Nat :=
  let c0 : Index := 0#32
  let arg1 : BitVec 32 := BitVec.ofNat 32 (i 1).val
  let c256_i32 : BitVec 32 := 256#32
  let v3 : BitVec 32 := Scalar.muli arg1 c256_i32
  let v4 : Index := Scalar.indexCast v3
  let c0_1 : Index := 0#32
  ![0, v4.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x6x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S6x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S512x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== ReferenceIdeal.lean ====
abbrev S2x1024x1024x6 : Shape := ⟨4, ![2, 1024, 1024, 6]⟩
abbrev S2x1024x512 : Shape := ⟨3, ![2, 1024, 512]⟩
abbrev S2x1024 : Shape := ⟨2, ![2, 1024]⟩
abbrev S6x16 : Shape := ⟨2, ![6, 16]⟩
abbrev S16 : Shape := ⟨1, ![16]⟩
abbrev S16x16 : Shape := ⟨2, ![16, 16]⟩
abbrev S16x8 : Shape := ⟨2, ![16, 8]⟩
abbrev S8 : Shape := ⟨1, ![8]⟩
abbrev S512x512 : Shape := ⟨2, ![512, 512]⟩
abbrev S512 : Shape := ⟨1, ![512]⟩
abbrev S2x1024x1024x16 : Shape := ⟨4, ![2, 1024, 1024, 16]⟩
abbrev S1x1x1x16 : Shape := ⟨4, ![1, 1, 1, 16]⟩
abbrev S_ : Shape := ⟨0, ![]⟩
abbrev S2x1024x1024x8 : Shape := ⟨4, ![2, 1024, 1024, 8]⟩
abbrev S1x1x1x8 : Shape := ⟨4, ![1, 1, 1, 8]⟩
abbrev S1x1x512 : Shape := ⟨3, ![1, 1, 512]⟩
abbrev S2x1024x8x64 : Shape := ⟨4, ![2, 1024, 8, 64]⟩
abbrev S2x8x1024x1024 : Shape := ⟨4, ![2, 8, 1024, 1024]⟩
abbrev S2x1x1024 : Shape := ⟨3, ![2, 1, 1024]⟩
abbrev S2x1024x1024 : Shape := ⟨3, ![2, 1024, 1024]⟩
abbrev S2x1024x1024x1 : Shape := ⟨4, ![2, 1024, 1024, 1]⟩
abbrev S2x1024x8 : Shape := ⟨3, ![2, 1024, 8]⟩
abbrev S2x1024x1x8 : Shape := ⟨4, ![2, 1024, 1, 8]⟩
abbrev S2x8x64x1024 : Shape := ⟨4, ![2, 8, 64, 1024]⟩

abbrev nBuf : Space → Nat
  | .hbm => 97
  | .vmem => 0
  | .smem => 0
  | _ => 0

abbrev bufTy : (tb : Table) → Fin (tcTables nBuf tb) → BufTy
  | .hbm, ⟨0, _⟩ => ⟨S2x1024x1024x6, .f32⟩
  | .hbm, ⟨1, _⟩ => ⟨S2x1024x512, .f32⟩
  | .hbm, ⟨2, _⟩ => ⟨S2x1024, .i1⟩
  | .hbm, ⟨3, _⟩ => ⟨S6x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S16x8, .f32⟩
  | .hbm, ⟨8, _⟩ => ⟨S8, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S512x512, .f32⟩
  | .hbm, ⟨14, _⟩ => ⟨S512, .f32⟩
  | .hbm, ⟨15, _⟩ => ⟨S512x512, .f32⟩
  | .hbm, ⟨16, _⟩ => ⟨S512, .f32⟩
  | .hbm, ⟨17, _⟩ => ⟨S2x1024x1024x16, .f32⟩
  | .hbm, ⟨18, _⟩ => ⟨S1x1x1x16, .f32⟩
  | .hbm, ⟨19, _⟩ => ⟨S2x1024x1024x16, .f32⟩
  | .hbm, ⟨20, _⟩ => ⟨S2x1024x1024x16, .f32⟩
  | .hbm, ⟨21, _⟩ => ⟨S2x1024x1024x16, .f32⟩
  | .hbm, ⟨22, _⟩ => ⟨S2x1024x1024x16, .f32⟩
  | .hbm, ⟨23, _⟩ => ⟨S_, .f32⟩
  | .hbm, ⟨24, _⟩ => ⟨S2x1024x1024x16, .f32⟩
  | .hbm, ⟨25, _⟩ => ⟨S2x1024x1024x16, .f32⟩
  | .hbm, ⟨26, _⟩ => ⟨S_, .f32⟩
  | .hbm, ⟨27, _⟩ => ⟨S2x1024x1024x16, .f32⟩
  | .hbm, ⟨28, _⟩ => ⟨S2x1024x1024x16, .f32⟩
  | .hbm, ⟨29, _⟩ => ⟨S2x1024x1024x16, .f32⟩
  | .hbm, ⟨30, _⟩ => ⟨S2x1024x1024x16, .f32⟩
  | .hbm, ⟨31, _⟩ => ⟨S1x1x1x16, .f32⟩
  | .hbm, ⟨32, _⟩ => ⟨S2x1024x1024x16, .f32⟩
  | .hbm, ⟨33, _⟩ => ⟨S2x1024x1024x16, .f32⟩
  | .hbm, ⟨34, _⟩ => ⟨S2x1024x1024x16, .f32⟩
  | .hbm, ⟨35, _⟩ => ⟨S2x1024x1024x16, .f32⟩
  | .hbm, ⟨36, _⟩ => ⟨S_, .f32⟩
  | .hbm, ⟨37, _⟩ => ⟨S2x1024x1024x16, .f32⟩
  | .hbm, ⟨38, _⟩ => ⟨S2x1024x1024x16, .f32⟩
  | .hbm, ⟨39, _⟩ => ⟨S_, .f32⟩
  | .hbm, ⟨40, _⟩ => ⟨S2x1024x1024x16, .f32⟩
  | .hbm, ⟨41, _⟩ => ⟨S2x1024x1024x16, .f32⟩
  | .hbm, ⟨42, _⟩ => ⟨S2x1024x1024x16, .f32⟩
  | .hbm, ⟨43, _⟩ => ⟨S2x1024x1024x8, .f32⟩
  | .hbm, ⟨44, _⟩ => ⟨S1x1x1x8, .f32⟩
  | .hbm, ⟨45, _⟩ => ⟨S2x1024x1024x8, .f32⟩
  | .hbm, ⟨46, _⟩ => ⟨S2x1024x1024x8, .f32⟩
  | .hbm, ⟨47, _⟩ => ⟨S2x1024x512, .f32⟩
  | .hbm, ⟨48, _⟩ => ⟨S1x1x512, .f32⟩
  | .hbm, ⟨49, _⟩ => ⟨S2x1024x512, .f32⟩
  | .hbm, ⟨50, _⟩ => ⟨S2x1024x512, .f32⟩
  | .hbm, ⟨51, _⟩ => ⟨S2x1024x8x64, .f32⟩
  | .hbm, ⟨52, _⟩ => ⟨S2x1024x512, .f32⟩
  | .hbm, ⟨53, _⟩ => ⟨S1x1x512, .f32⟩
  | .hbm, ⟨54, _⟩ => ⟨S2x1024x512, .f32⟩
  | .hbm, ⟨55, _⟩ => ⟨S2x1024x512, .f32⟩
  | .hbm, ⟨56, _⟩ => ⟨S2x1024x8x64, .f32⟩
  | .hbm, ⟨57, _⟩ => ⟨S2x8x1024x1024, .f32⟩
  | .hbm, ⟨58, _⟩ => ⟨S2x1024x1024x8, .f32⟩
  | .hbm, ⟨59, _⟩ => ⟨S_, .f32⟩
  | .hbm, ⟨60, _⟩ => ⟨S_, .f32⟩
  | .hbm, ⟨61, _⟩ => ⟨S2x1024x1024x8, .f32⟩
  | .hbm, ⟨62, _⟩ => ⟨S2x1024x1024x8, .f32⟩
  | .hbm, ⟨63, _⟩ => ⟨S2x1024x1024x8, .f32⟩
  | .hbm, ⟨64, _⟩ => ⟨S2x1x1024, .i1⟩
  | .hbm, ⟨65, _⟩ => ⟨S2x1024x1024, .i1⟩
  | .hbm, ⟨66, _⟩ => ⟨S2x1024x1024x1, .i1⟩
  | .hbm, ⟨67, _⟩ => ⟨S_, .f32⟩
  | .hbm, ⟨68, _⟩ => ⟨S2x1024x1024x8, .i1⟩
  | .hbm, ⟨69, _⟩ => ⟨S2x1024x1024x8, .f32⟩
  | .hbm, ⟨70, _⟩ => ⟨S2x1024x1024x8, .f32⟩
  | .hbm, ⟨71, _⟩ => ⟨S_, .f32⟩
  | .hbm, ⟨72, _⟩ => ⟨S2x1024x8, .f32⟩
  | .hbm, ⟨73, _⟩ => ⟨S_, .f32⟩
  | .hbm, ⟨74, _⟩ => ⟨S2x1024x8, .f32⟩
  | .hbm, ⟨75, _⟩ => ⟨S2x1024x8, .f32⟩
  | .hbm, ⟨76, _⟩ => ⟨S2x1024x1x8, .f32⟩
  | .hbm, ⟨77, _⟩ => ⟨S2x1024x1024x8, .f32⟩
  | .hbm, ⟨78, _⟩ => ⟨S2x1024x1024x8, .f32⟩
  | .hbm, ⟨79, _⟩ => ⟨S2x1024x1024x8, .f32⟩
  | .hbm, ⟨80, _⟩ => ⟨S_, .f32⟩
  | .hbm, ⟨81, _⟩ => ⟨S2x1024x8, .f32⟩
  | .hbm, ⟨82, _⟩ => ⟨S2x1024x1x8, .f32⟩
  | .hbm, ⟨83, _⟩ => ⟨S2x1024x1024x8, .f32⟩
  | .hbm, ⟨84, _⟩ => ⟨S2x1024x1024x8, .f32⟩
  | .hbm, ⟨85, _⟩ => ⟨S2x1024x512, .f32⟩
  | .hbm, ⟨86, _⟩ => ⟨S1x1x512, .f32⟩
  | .hbm, ⟨87, _⟩ => ⟨S2x1024x512, .f32⟩
  | .hbm, ⟨88, _⟩ => ⟨S2x1024x512, .f32⟩
  | .hbm, ⟨89, _⟩ => ⟨S2x1024x8x64, .f32⟩
  | .hbm, ⟨90, _⟩ => ⟨S2x8x64x1024, .f32⟩
  | .hbm, ⟨91, _⟩ => ⟨S2x1024x8x64, .f32⟩
  | .hbm, ⟨92, _⟩ => ⟨S2x1024x512, .f32⟩
  | .hbm, ⟨93, _⟩ => ⟨S2x1024x512, .f32⟩
  | .hbm, ⟨94, _⟩ => ⟨S1x1x512, .f32⟩
  | .hbm, ⟨95, _⟩ => ⟨S2x1024x512, .f32⟩
  | .hbm, ⟨96, _⟩ => ⟨S2x1024x512, .f32⟩
  | _, _ => ⟨S2x1024x1024x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_1 : Ref sig .tc := ⟨.hbm, 36, rfl⟩
abbrev main_v17 : Ref sig .tc := ⟨.hbm, 37, rfl⟩
abbrev main_v18 : Ref sig .tc := ⟨.hbm, 38, rfl⟩
abbrev main_cst_2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_3 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_4 : Ref sig .tc := ⟨.hbm, 67, rfl⟩
abbrev main_call0_v0 : Ref sig .tc := ⟨.hbm, 68, rfl⟩
abbrev main_call0_v1 : Ref sig .tc := ⟨.hbm, 69, rfl⟩
abbrev main_v45 : Ref sig .tc := ⟨.hbm, 70, rfl⟩
abbrev main_cst_5 : Ref sig .tc := ⟨.hbm, 71, rfl⟩
abbrev main_v46 : Ref sig .tc := ⟨.hbm, 72, rfl⟩
abbrev main_cst_6 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_7 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩

abbrev nD : Nat := 1
abbrev τ : Topo := Topo.v7x

variable {F : FTy → Type} [FloatOps F]
-- ==== Proof.Scalars.lean ====
module

public import Idealize.ShloMosaic.Lib.Pointwise

@[expose] public section

noncomputable section

namespace Cert.Attn

open Idealize.ShloMosaic

/-! # The arithmetic of one attention entry over the extended reals

Nothing here mentions an array: these are the equations between numbers by which the kernel's way of computing a
swish, a scaled score and a softmax average meets the reference's. -/

/-- An extended real that is a real number. -/
def Finite (x : EReal) : Prop := ∃ r : ℝ, x = (r : EReal)

/-- The cast of a real is a real. -/
theorem Finite.coe (r : ℝ) : Finite (r : EReal) := ⟨r, rfl⟩

/-- The sum of two reals is a real. -/
theorem Finite.add {x y : EReal} (hx : Finite x) (hy : Finite y) : Finite (x + y) := by
  obtain ⟨a, rfl⟩ := hx
  obtain ⟨b, rfl⟩ := hy
  exact ⟨a + b, (EReal.coe_add a b).symm⟩

/-- The product of two reals is a real. -/
theorem Finite.mul {x y : EReal} (hx : Finite x) (hy : Finite y) : Finite (x * y) := by
  obtain ⟨a, rfl⟩ := hx
  obtain ⟨b, rfl⟩ := hy
  exact ⟨a * b, (EReal.coe_mul a b).symm⟩

/-- Summing the casts of reals is casting their sum. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A finite sum of reals is a real. -/
theorem Finite.sum {ι : Type*} {s : Finset ι} {f : ι → EReal} (h : ∀ i, Finite (f i)) : Finite (∑ i ∈ s, f i) := by
  choose g hg using h
  exact ⟨∑ i ∈ s, g i, by rw [← coe_sum]; exact Finset.sum_congr rfl fun i _ => hg i⟩

/-- Below the infinity in absolute value means real. -/
theorem Finite.of_abs_lt {x : EReal} (h : max x (-x) < ⊤) : Finite x := by
  induction x using EReal.rec with
  | bot => simp at h
  | top => simp at h
  | coe r => exact ⟨r, rfl⟩

/-! ## The constants the programs spell as bit patterns -/

/-- This word is one half. -/
theorem ofBits_half : Ideal.ofBits .f32 0x3F000000#32 = ((1 / 2 : ℝ) : EReal) := by
  simp [Ideal.ofBits, Ideal.ieee, -EReal.coe_mul]; norm_num

/-- This word is one eighth. -/
theorem ofBits_eighth : Ideal.ofBits .f32 0x3E000000#32 = ((1 / 8 : ℝ) : EReal) := by
  simp [Ideal.ofBits, Ideal.ieee, -EReal.coe_mul]; norm_num

/-- This word is 64. -/
theorem ofBits_64 : Ideal.ofBits .f32 0x42800000#32 = ((64 : ℝ) : EReal) := by
  simp [Ideal.ofBits, Ideal.ieee, -EReal.coe_mul]; norm_num

/-- This word is plus infinity. -/
theorem ofBits_inf : Ideal.ofBits .f32 0x7F800000#32 = (⊤ : EReal) := by
  simp [Ideal.ofBits, Ideal.ieee]

/-- This word is minus infinity. -/
theorem ofBits_neg_inf : Ideal.ofBits .f32 0xFF800000#32 = (⊥ : EReal) := by
  simp [Ideal.ofBits, Ideal.ieee]

/-- The square root of the head width 64 is 8. -/
theorem sqrt_64 : Ideal.sqrt (Ideal.ofBits .f32 0x42800000#32) = ((8 : ℝ) : EReal) := by
  rw [ofBits_64, Ideal.sqrt_coe, if_neg (by norm_num), show (64 : ℝ) = 8 ^ 2 by norm_num, Real.sqrt_sq (by norm_num)]

/-! ## The swish -/

/-- The swish as the reference spells it: `x · 1 / (1 + e^(-x))`. -/
def swish (x : EReal) : EReal := x * Ideal.div 1 (1 + Ideal.exp (-x))

/-- At a real the swish is the real `x / (1 + e^(-x))`. -/
theorem swish_coe (r : ℝ) : swish (r : EReal) = ((r * (1 + Real.exp (-r))⁻¹ : ℝ) : EReal) := by
  have h := Ideal.logistic_coe r
  unfold Ideal.logistic at h
  rw [swish, h, EReal.coe_mul]

/-- The swish of a real is a real. -/
theorem Finite.swish {x : EReal} (hx : Finite x) : Finite (swish x) := by
  obtain ⟨r, rfl⟩ := hx
  exact ⟨_, swish_coe r⟩

/-- Half a real times one plus the hyperbolic tangent of that half is the swish, over the reals. -/
theorem half_tanh (r : ℝ) : 1 / 2 * r * Real.tanh (1 / 2 * r) + 1 / 2 * r = r * (1 + Real.exp (-r))⁻¹ := by
  have h1 : Real.exp (-r) = Real.exp (-(1 / 2 * r)) * Real.exp (-(1 / 2 * r)) := by
    rw [← Real.exp_add]; congr 1; ring
  have hp : 0 < Real.exp (1 / 2 * r) := Real.exp_pos _
  have hi : Real.exp (-(1 / 2 * r)) = (Real.exp (1 / 2 * r))⁻¹ := Real.exp_neg _
  rw [Real.tanh_eq_sinh_div_cosh, Real.sinh_eq, Real.cosh_eq, h1, hi]
  set e := Real.exp (1 / 2 * r) with he
  have hne : e ≠ 0 := hp.ne'
  have h2 : e ^ 2 + 1 ≠ 0 := by positivity
  field_simp
  ring

/-- The kernel's swish, `h · tanh h + h` with `h = x / 2`, is the reference's at every real. -/
theorem swish_tanh {x : EReal} (hx : Finite x) :
    Ideal.ofBits .f32 0x3F000000#32 * x * Ideal.tanh (Ideal.ofBits .f32 0x3F000000#32 * x) + Ideal.ofBits .f32 0x3F000000#32 * x
      = swish x := by
  obtain ⟨r, rfl⟩ := hx
  rw [ofBits_half, ← EReal.coe_mul, Ideal.tanh_coe, ← EReal.coe_mul, ← EReal.coe_add, half_tanh, swish_coe]

/-! ## The scaled score -/

/-- Scaling every query entry by 1/8 before the product is dividing the product by the root of 64 after it. -/
theorem scaled_dot {n : ℕ} {q k : Fin n → EReal} (hq : ∀ d, Finite (q d)) (hk : ∀ d, Finite (k d)) :
    ∑ d, q d * Ideal.ofBits .f32 0x3E000000#32 * k d
      = Ideal.div (∑ d, k d * q d) (Ideal.sqrt (Ideal.ofBits .f32 0x42800000#32)) := by
  choose a ha using hq
  choose b hb using hk
  rw [sqrt_64, Ideal.div_coe (by norm_num)]
  simp only [ha, hb, ofBits_eighth, ← EReal.coe_mul, coe_sum]
  rw [Finset.sum_mul]
  congr 1
  exact Finset.sum_congr rfl fun d _ => by ring

/-! ## The softmax average -/

/-- A nonnegative real factor goes into a finite sum of extended reals. -/
theorem sum_mul_coe {ι : Type*} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih,
      EReal.right_distrib_of_nonneg_of_ne_top (by exact_mod_cast hr) (EReal.coe_ne_top r)]

/-- The largest of finitely many reals, at least one, is a real, also where the fold starts below them all. -/
theorem Finite.fold_max {n : ℕ} (hn : 0 < n) {P : Fin n → EReal} (hP : ∀ m, Finite (P m)) :
    Finite (Finset.univ.fold max (⊥ : EReal) P) := by
  choose p hp using hP
  have h1 : Finset.univ.fold max (⊥ : EReal) P < ⊤ := by
    rw [Finset.fold_max_lt]
    exact ⟨bot_lt_top, fun m _ => by rw [hp m]; exact EReal.coe_lt_top _⟩
  have h2 : ⊥ < Finset.univ.fold max (⊥ : EReal) P := by
    rw [Finset.lt_fold_max]
    exact Or.inr ⟨⟨0, hn⟩, Finset.mem_univ _, by rw [hp]; exact EReal.bot_lt_coe _⟩
  exact ⟨_, (EReal.coe_toReal h1.ne h2.ne').symm⟩

/-- THE SOFTMAX AVERAGE. Dividing the weighted sum by the sum of the weights `e^P` is averaging with the weights
    `e^(P - M)` normalised one by one, for real scores `P`, any real shift `M` and any values `V`, infinite ones too. -/
theorem softmax_average {n : ℕ} (hn : 0 < n) {P : Fin n → EReal} (V : Fin n → EReal) {M : EReal}
    (hP : ∀ m, Finite (P m)) (hM : Finite M) :
    Ideal.div (∑ m, Ideal.exp (P m) * V m) (∑ m, Ideal.exp (P m))
      = ∑ m, V m * Ideal.div (Ideal.exp (P m - M)) (∑ l, Ideal.exp (P l - M)) := by
  choose p hp using hP
  obtain ⟨μ, rfl⟩ := hM
  have hne : (Finset.univ : Finset (Fin n)).Nonempty := ⟨⟨0, hn⟩, Finset.mem_univ _⟩
  have hS : 0 < ∑ m, Real.exp (p m) := Finset.sum_pos (fun m _ => Real.exp_pos _) hne
  have hT : 0 < ∑ m, Real.exp (p m - μ) := Finset.sum_pos (fun m _ => Real.exp_pos _) hne
  have hST : ∑ m, Real.exp (p m - μ) = (∑ m, Real.exp (p m)) * Real.exp (-μ) := by
    rw [Finset.sum_mul]
    exact Finset.sum_congr rfl fun m _ => by rw [← Real.exp_add, sub_eq_add_neg]
  simp only [hp, ← EReal.coe_sub, Ideal.exp_coe, coe_sum]
  rw [Ideal.div_coe hS.ne', sum_mul_coe _ _ (by positivity)]
  refine Finset.sum_congr rfl fun m _ => ?_
  rw [Ideal.div_coe hT.ne', ← EReal.coe_mul, mul_comm ((Real.exp (p m) : ℝ) : EReal), mul_assoc, ← EReal.coe_mul]
  congr 2
  rw [hST, sub_eq_add_neg, Real.exp_add]
  have := (Real.exp_pos (-μ)).ne'
  have := hS.ne'
  field_simp

end Cert.Attn

end
-- ==== Proof.Spec.lean ====
module

public import proofs.«01_k».proof.Proof.Scalars

@[expose] public section

noncomputable section

namespace Cert.Attn

open Idealize.ShloMosaic

/-! # The attention as a function of its inputs

The numbers that both programs compute, entry by entry: the location score of a pair of points, the content score of
a query against a key, the normalised weights, and the mixed values carried through the output weights. -/

/-- The inputs that the result depends on where no point is masked. -/
structure Inputs where
  G : FVec Ideal ⟨4, ![2, 1024, 1024, 6]⟩ .f32
  X : FVec Ideal ⟨3, ![2, 1024, 512]⟩ .f32
  W1 : FVec Ideal ⟨2, ![6, 16]⟩ .f32
  b1 : FVec Ideal ⟨1, ![16]⟩ .f32
  W2 : FVec Ideal ⟨2, ![16, 16]⟩ .f32
  b2 : FVec Ideal ⟨1, ![16]⟩ .f32
  W3 : FVec Ideal ⟨2, ![16, 8]⟩ .f32
  b3 : FVec Ideal ⟨1, ![8]⟩ .f32
  Wq : FVec Ideal ⟨2, ![512, 512]⟩ .f32
  bq : FVec Ideal ⟨1, ![512]⟩ .f32
  Wk : FVec Ideal ⟨2, ![512, 512]⟩ .f32
  bk : FVec Ideal ⟨1, ![512]⟩ .f32
  Win : FVec Ideal ⟨2, ![512, 512]⟩ .f32
  bin : FVec Ideal ⟨1, ![512]⟩ .f32
  Wout : FVec Ideal ⟨2, ![512, 512]⟩ .f32
  bout : FVec Ideal ⟨1, ![512]⟩ .f32

/-- One affine layer at output `j`: the row `x` times column `j` of `W`, plus the bias. -/
def layer {K J : ℕ} (W : FVec Ideal ⟨2, ![K, J]⟩ .f32) (b : FVec Ideal ⟨1, ![J]⟩ .f32) (x : Fin K → EReal) (j : Fin J) : EReal :=
  ∑ k, x k * W (ix2 k j) + b (ix1 j)

/-- The column of the 512 features that entry `d` of head `h` sits in. -/
def lane (h : Fin 8) (d : Fin 64) : Fin 512 := ⟨64 * h + d, by omega⟩

namespace Inputs

variable (A : Inputs)

/-- The location score of head `h` for the pair of points `n`, `m`: three layers over the pair's six features. -/
def loc (i : Fin 2) (n m : Fin 1024) (h : Fin 8) : EReal :=
  layer A.W3 A.b3 (fun k => swish (layer A.W2 A.b2 (fun l => swish (layer A.W1 A.b1 (fun f => A.G (ix4 i n m f)) l)) k)) h

/-- The query of point `n`, feature `e`. -/
def query (i : Fin 2) (n : Fin 1024) (e : Fin 512) : EReal := layer A.Wq A.bq (fun f => A.X (ix3 i n f)) e

/-- The key of point `n`, feature `e`. -/
def key (i : Fin 2) (n : Fin 1024) (e : Fin 512) : EReal := layer A.Wk A.bk (fun f => A.X (ix3 i n f)) e

/-- The value of point `n`, feature `e`. -/
def val (i : Fin 2) (n : Fin 1024) (e : Fin 512) : EReal := layer A.Win A.bin (fun f => A.X (ix3 i n f)) e

/-- The score of query point `n` against key point `m` in head `h`. -/
def score (i : Fin 2) (n m : Fin 1024) (h : Fin 8) : EReal :=
  A.loc i n m h + Ideal.div (∑ d, A.key i m (lane h d) * A.query i n (lane h d)) (Ideal.sqrt (Ideal.ofBits .f32 0x42800000#32))

/-- The largest score of query point `n` in head `h`. -/
def top (i : Fin 2) (n : Fin 1024) (h : Fin 8) : EReal := Finset.univ.fold max (⊥ : EReal) fun m => A.score i n m h

/-- The values mixed with the normalised weights, entry `d` of head `h`. -/
def mixed (i : Fin 2) (n : Fin 1024) (h : Fin 8) (d : Fin 64) : EReal :=
  ∑ m, A.val i m (lane h d) * Ideal.div (Ideal.exp (A.score i n m h - A.top i n h)) (∑ l, Ideal.exp (A.score i n l h - A.top i n h))

/-- The result at point `n`, feature `e`: the heads' mixed values side by side, through the output weights. -/
def out (i : Fin 2) (n : Fin 1024) (e : Fin 512) : EReal :=
  ∑ h : Fin 8, ∑ d : Fin 64, A.mixed i n h d * A.Wout (ix2 (lane h d) e) + A.bout (ix1 e)

/-- Every number that the scores are computed from is real. -/
structure Real : Prop where
  G : ∀ j, Finite (A.G j)
  X : ∀ j, Finite (A.X j)
  W1 : ∀ j, Finite (A.W1 j)
  b1 : ∀ j, Finite (A.b1 j)
  W2 : ∀ j, Finite (A.W2 j)
  b2 : ∀ j, Finite (A.b2 j)
  W3 : ∀ j, Finite (A.W3 j)
  b3 : ∀ j, Finite (A.b3 j)
  Wq : ∀ j, Finite (A.Wq j)
  bq : ∀ j, Finite (A.bq j)
  Wk : ∀ j, Finite (A.Wk j)
  bk : ∀ j, Finite (A.bk j)

end Inputs

/-- A layer of real weights over a real row is real. -/
theorem Finite.layer {K J : ℕ} {W : FVec Ideal ⟨2, ![K, J]⟩ .f32} {b : FVec Ideal ⟨1, ![J]⟩ .f32} {x : Fin K → EReal}
    (hW : ∀ j, Finite (W j)) (hb : ∀ j, Finite (b j)) (hx : ∀ k, Finite (x k)) (j : Fin J) : Finite (layer W b x j) :=
  (Finite.sum fun k => (hx k).mul (hW _)).add (hb _)

namespace Inputs

variable {A : Inputs}

/-- A query of real inputs is real. -/
theorem Real.query (hA : A.Real) (i : Fin 2) (n : Fin 1024) (e : Fin 512) : Finite (A.query i n e) :=
  Finite.layer hA.Wq hA.bq (fun f => hA.X _) e

/-- A key of real inputs is real. -/
theorem Real.key (hA : A.Real) (i : Fin 2) (n : Fin 1024) (e : Fin 512) : Finite (A.key i n e) :=
  Finite.layer hA.Wk hA.bk (fun f => hA.X _) e

/-- The first layer of real inputs is real. -/
theorem Real.hidden1 (hA : A.Real) (i : Fin 2) (n m : Fin 1024) (l : Fin 16) :
    Finite (Attn.layer A.W1 A.b1 (fun f => A.G (ix4 i n m f)) l) :=
  Finite.layer hA.W1 hA.b1 (fun f => hA.G _) l

/-- The second layer of real inputs is real. -/
theorem Real.hidden2 (hA : A.Real) (i : Fin 2) (n m : Fin 1024) (k : Fin 16) :
    Finite (Attn.layer A.W2 A.b2 (fun l => swish (Attn.layer A.W1 A.b1 (fun f => A.G (ix4 i n m f)) l)) k) :=
  Finite.layer hA.W2 hA.b2 (fun l => (hA.hidden1 i n m l).swish) k

/-- A location score of real inputs is real. -/
theorem Real.loc (hA : A.Real) (i : Fin 2) (n m : Fin 1024) (h : Fin 8) : Finite (A.loc i n m h) :=
  Finite.layer hA.W3 hA.b3 (fun k => (hA.hidden2 i n m k).swish) h

/-- The score as the kernel computes it: queries scaled by 1/8 before the product. -/
theorem Real.score_eq (hA : A.Real) (i : Fin 2) (n m : Fin 1024) (h : Fin 8) :
    A.score i n m h = A.loc i n m h + ∑ d, A.query i n (lane h d) * Ideal.ofBits .f32 0x3E000000#32 * A.key i m (lane h d) := by
  rw [score, scaled_dot (fun d => hA.query i n _) (fun d => hA.key i m _)]

/-- A score of real inputs is real. -/
theorem Real.score (hA : A.Real) (i : Fin 2) (n m : Fin 1024) (h : Fin 8) : Finite (A.score i n m h) := by
  rw [hA.score_eq]
  exact (hA.loc i n m h).add (Finite.sum fun d => ((hA.query i n _).mul ⟨_, ofBits_eighth⟩).mul (hA.key i m _))

/-- The largest of the real scores is real. -/
theorem Real.top (hA : A.Real) (i : Fin 2) (n : Fin 1024) (h : Fin 8) : Finite (A.top i n h) :=
  Finite.fold_max (by norm_num) fun m => hA.score i n m h

/-- The mixed values as the kernel computes them: weights `e^score` that are not normalised, and one division after the
    sum over the keys. -/
theorem Real.mixed_eq (hA : A.Real) (i : Fin 2) (n : Fin 1024) (h : Fin 8) (d : Fin 64) :
    Ideal.div (∑ m, Ideal.exp (A.score i n m h) * A.val i m (lane h d)) (∑ m, Ideal.exp (A.score i n m h)) = A.mixed i n h d :=
  softmax_average (by norm_num) (fun m => A.val i m (lane h d)) (fun m => hA.score i n m h) (hA.top i n h)

end Inputs

end Cert.Attn

end
-- ==== Proof.Reference.lean ====
module

public import proofs.«01_k».proof.Proof.Spec
public import proofs.«01_k».proof.Proof.Gen.ReferenceIdeal.Run
public import Idealize.ShloMosaic.Lib.Pipeline.ValueKit

@[expose] public section

set_option maxRecDepth 16384

noncomputable section

namespace Cert.Attn.Ref

open Idealize.ShloMosaic Idealize.ShloMosaic.TcCoe Idealize.SL.Sem
open Cert.ReferenceIdeal Cert.ReferenceIdeal.Gen

/-! # What the reference computes

Its operations in stages, each stage a function of the arrays it reads, and each stage read at an entry. -/

/-- First layer over the pairs' features. -/
def pair1 (g : FVec Ideal S2x1024x1024x6 .f32) (w : FVec Ideal S6x16 .f32) (b : FVec Ideal S16 .f32) : FVec Ideal S2x1024x1024x16 .f32 :=
  addf (Host.dotGeneral dot_S2x1024x1024x6_S6x16_S2x1024x1024x16_3_0_012_1_n_n none g w)
    (broadcastInDim S2x1024x1024x16 ![0, 1, 2, 3] bcast_S1x1x1x16_S2x1024x1024x16_0_1_2_3 (broadcastInDim S1x1x1x16 ![3] bcast_S16_S1x1x1x16_3 b))

/-- The swish of a hidden layer. -/
def gate (x : FVec Ideal S2x1024x1024x16 .f32) : FVec Ideal S2x1024x1024x16 .f32 :=
  mulf x (Host.divf (broadcastInDim S2x1024x1024x16 ![] bcast_S_S2x1024x1024x16 (constant S_ .f32 0x3F800000#32))
    (addf (broadcastInDim S2x1024x1024x16 ![] bcast_S_S2x1024x1024x16 (constant S_ .f32 0x3F800000#32)) (Host.exp (Host.negf x))))

/-- Second layer. -/
def pair2 (x : FVec Ideal S2x1024x1024x16 .f32) (w : FVec Ideal S16x16 .f32) (b : FVec Ideal S16 .f32) : FVec Ideal S2x1024x1024x16 .f32 :=
  addf (Host.dotGeneral dot_S2x1024x1024x16_S16x16_S2x1024x1024x16_3_0_012_1_n_n none x w)
    (broadcastInDim S2x1024x1024x16 ![0, 1, 2, 3] bcast_S1x1x1x16_S2x1024x1024x16_0_1_2_3 (broadcastInDim S1x1x1x16 ![3] bcast_S16_S1x1x1x16_3 b))

/-- Third layer: one location score for every head. -/
def pair3 (x : FVec Ideal S2x1024x1024x16 .f32) (w : FVec Ideal S16x8 .f32) (b : FVec Ideal S8 .f32) : FVec Ideal S2x1024x1024x8 .f32 :=
  addf (Host.dotGeneral dot_S2x1024x1024x16_S16x8_S2x1024x1024x8_3_0_012_1_n_n none x w)
    (broadcastInDim S2x1024x1024x8 ![0, 1, 2, 3] bcast_S1x1x1x8_S2x1024x1024x8_0_1_2_3 (broadcastInDim S1x1x1x8 ![3] bcast_S8_S1x1x1x8_3 b))

/-- The projections of the points: queries, keys, values and the output, each by its own weights. -/
def proj (x : FVec Ideal S2x1024x512 .f32) (w : FVec Ideal S512x512 .f32) (b : FVec Ideal S512 .f32) : FVec Ideal S2x1024x512 .f32 :=
  addf (Host.dotGeneral dot_S2x1024x512_S512x512_S2x1024x512_2_0_01_1_n_n none x w)
    (broadcastInDim S2x1024x512 ![0, 1, 2] bcast_S1x1x512_S2x1024x512_0_1_2 (broadcastInDim S1x1x512 ![2] bcast_S512_S1x1x512_2 b))

/-- The 512 features as 8 heads of 64. -/
def heads (x : FVec Ideal S2x1024x512 .f32) : FVec Ideal S2x1024x8x64 .f32 := shapeCast _ x shapeCasts_S2x1024x512_S2x1024x8x64

/-- Location score plus content score over the root of 64, masked. -/
def scores (l : FVec Ideal S2x1024x1024x8 .f32) (k q : FVec Ideal S2x1024x8x64 .f32) (mask : IVec S2x1024 1) : FVec Ideal S2x1024x1024x8 .f32 :=
  select (broadcastInDim S2x1024x1024x8 ![0, 1, 2, 3] bcast_S2x1024x1024x1_S2x1024x1024x8_0_1_2_3 (broadcastInDim S2x1024x1024x1 ![0, 1, 2] bcast_S2x1024x1024_S2x1024x1024x1_0_1_2 (broadcastInDim S2x1024x1024 ![0, 1, 2] bcast_S2x1x1024_S2x1024x1024_0_1_2 (broadcastInDim S2x1x1024 ![0, 2] bcast_S2x1024_S2x1x1024_0_2 mask))))
    (addf l (Host.divf (transpose S2x1024x1024x8 [0, 3, 2, 1] (Host.dotGeneral dot_S2x1024x8x64_S2x1024x8x64_S2x8x1024x1024_3_3_1_1_02_02 none k q) transposes_S2x8x1024x1024_S2x1024x1024x8_0_3_2_1)
      (broadcastInDim S2x1024x1024x8 ![] bcast_S_S2x1024x1024x8 (Host.sqrt (constant S_ .f32 0x42800000#32)))))
    (broadcastInDim S2x1024x1024x8 ![] bcast_S_S2x1024x1024x8 (constant S_ .f32 0xFE967699#32))

/-- The largest score of each query in each head. -/
def rowTop (p : FVec Ideal S2x1024x1024x8 .f32) : FVec Ideal S2x1024x8 .f32 :=
  maximumf (broadcastInDim S2x1024x8 ![] bcast_S_S2x1024x8 (constant S_ .f32 0xFF800000#32)) (Host.reduce FloatOps.maximumf p (constant S_ .f32 0xFF800000#32) reducesTo_S2x1024x1024x8_S2x1024x8_d2 h_S_)

/-- One number for each query and head, repeated along the keys. -/
def alongKeys (t : FVec Ideal S2x1024x8 .f32) : FVec Ideal S2x1024x1024x8 .f32 :=
  broadcastInDim S2x1024x1024x8 ![0, 1, 2, 3] bcast_S2x1024x1x8_S2x1024x1024x8_0_1_2_3 (broadcastInDim S2x1024x1x8 ![0, 1, 3] bcast_S2x1024x8_S2x1024x1x8_0_1_3 t)

/-- The sum over the keys. -/
def rowSum (e : FVec Ideal S2x1024x1024x8 .f32) : FVec Ideal S2x1024x8 .f32 :=
  Host.reduceAdd e (constant S_ .f32 0x00000000#32) reducesTo_S2x1024x1024x8_S2x1024x8_d2 h_S_

/-- The exponentials of the scores less their largest. -/
def shifted (p : FVec Ideal S2x1024x1024x8 .f32) : FVec Ideal S2x1024x1024x8 .f32 := Host.exp (subf p (alongKeys (rowTop p)))

/-- The scores' softmax over the keys, as the weights that the values are mixed with. -/
def weights (p : FVec Ideal S2x1024x1024x8 .f32) : FVec Ideal S2x1024x1024x8 .f32 := Host.divf (shifted p) (alongKeys (rowSum (shifted p)))

/-- The values mixed with the weights, the heads side by side again. -/
def mix (v : FVec Ideal S2x1024x8x64 .f32) (a : FVec Ideal S2x1024x1024x8 .f32) : FVec Ideal S2x1024x512 .f32 :=
  shapeCast _ (transpose S2x1024x8x64 [0, 3, 1, 2] (Host.dotGeneral dot_S2x1024x8x64_S2x1024x1024x8_S2x8x64x1024_1_2_3_1_02_03 none v a) transposes_S2x8x64x1024_S2x1024x8x64_0_3_1_2) shapeCasts_S2x1024x8x64_S2x1024x512

/-- The reference's attention, its stages put together. -/
def attention (A : Inputs) (mask : IVec S2x1024 1) : FVec Ideal S2x1024x512 .f32 :=
  proj (mix (heads (proj A.X A.Win A.bin))
    (weights (scores (pair3 (gate (pair2 (gate (pair1 A.G A.W1 A.b1)) A.W2 A.b2)) A.W3 A.b3) (heads (proj A.X A.Wk A.bk)) (heads (proj A.X A.Wq A.bq)) mask)))
    A.Wout A.bout

/-- The inputs in the reference's memory. -/
def inputs (m : (ℓ : Loc nD τ sig) → Buf (Elt Ideal) ℓ) (c : Dev nD) : Inputs where
  G := m ((c.tc : Thread nD τ).loc main_arg0)
  X := m ((c.tc : Thread nD τ).loc main_arg1)
  W1 := m ((c.tc : Thread nD τ).loc main_arg3)
  b1 := m ((c.tc : Thread nD τ).loc main_arg4)
  W2 := m ((c.tc : Thread nD τ).loc main_arg5)
  b2 := m ((c.tc : Thread nD τ).loc main_arg6)
  W3 := m ((c.tc : Thread nD τ).loc main_arg7)
  b3 := m ((c.tc : Thread nD τ).loc main_arg8)
  Wq := m ((c.tc : Thread nD τ).loc main_arg9)
  bq := m ((c.tc : Thread nD τ).loc main_arg10)
  Wk := m ((c.tc : Thread nD τ).loc main_arg11)
  bk := m ((c.tc : Thread nD τ).loc main_arg12)
  Win := m ((c.tc : Thread nD τ).loc main_arg13)
  bin := m ((c.tc : Thread nD τ).loc main_arg14)
  Wout := m ((c.tc : Thread nD τ).loc main_arg15)
  bout := m ((c.tc : Thread nD τ).loc main_arg16)

/-- What the reference's run leaves in its result is these stages of its arguments. -/
theorem run_eq (m : (ℓ : Loc nD τ sig) → Buf (Elt Ideal) ℓ) (c : Dev nD) :
    Cert.ReferenceIdeal.Value.res_main_v68 (F := Ideal) m c = attention (inputs m c) (m ((c.tc : Thread nD τ).loc main_arg2)) := rfl

/-! ## The stages read at an entry -/

/-- An entry of the first layer is the affine layer of its pair's features. -/
theorem pair1_at (g : FVec Ideal S2x1024x1024x6 .f32) (w : FVec Ideal S6x16 .f32) (b : FVec Ideal S16 .f32) (i : Fin 2) (n k : Fin 1024) (j : Fin 16) :
    pair1 g w b (ix4 i n k j) = layer w b (fun f => g (ix4 i n k f)) j := by
  pointwise [pair1, layer]

/-- An entry of the gated array is the swish of that entry. -/
theorem gate_at (x : FVec Ideal S2x1024x1024x16 .f32) (i : Fin 2) (n k : Fin 1024) (j : Fin 16) :
    gate x (ix4 i n k j) = swish (x (ix4 i n k j)) := by
  pointwise [gate, swish]

/-- An entry of the second layer is the affine layer of its pair's hidden row. -/
theorem pair2_at (x : FVec Ideal S2x1024x1024x16 .f32) (w : FVec Ideal S16x16 .f32) (b : FVec Ideal S16 .f32) (i : Fin 2) (n k : Fin 1024) (j : Fin 16) :
    pair2 x w b (ix4 i n k j) = layer w b (fun f => x (ix4 i n k f)) j := by
  pointwise [pair2, layer]

/-- An entry of the third layer is the affine layer of its pair's hidden row. -/
theorem pair3_at (x : FVec Ideal S2x1024x1024x16 .f32) (w : FVec Ideal S16x8 .f32) (b : FVec Ideal S8 .f32) (i : Fin 2) (n k : Fin 1024) (h : Fin 8) :
    pair3 x w b (ix4 i n k h) = layer w b (fun f => x (ix4 i n k f)) h := by
  pointwise [pair3, layer]

/-- An entry of a projection is the affine layer of its point's row. -/
theorem proj_at (x : FVec Ideal S2x1024x512 .f32) (w : FVec Ideal S512x512 .f32) (b : FVec Ideal S512 .f32) (i : Fin 2) (n : Fin 1024) (e : Fin 512) :
    proj x w b (ix3 i n e) = layer w b (fun f => x (ix3 i n f)) e := by
  pointwise [proj, layer]

/-- Entry `d` of head `h` is the feature at their lane. -/
theorem heads_at (x : FVec Ideal S2x1024x512 .f32) (i : Fin 2) (n : Fin 1024) (h : Fin 8) (d : Fin 64) :
    heads x (ix4 i n h d) = x (ix3 i n (lane h d)) := by
  pointwise [heads, lane]
  blk_ext

/-- Where no point is masked, the score is the sum. -/
theorem scores_at (l : FVec Ideal S2x1024x1024x8 .f32) (k q : FVec Ideal S2x1024x8x64 .f32) (mask : IVec S2x1024 1) (hm : mask = fun _ => 1#1)
    (i : Fin 2) (n j : Fin 1024) (h : Fin 8) :
    scores l k q mask (ix4 i n j h) = l (ix4 i n j h) + Ideal.div (∑ d, k (ix4 i j h d) * q (ix4 i n h d)) (Ideal.sqrt (Ideal.ofBits .f32 0x42800000#32)) := by
  subst hm
  pointwise [scores]

/-- The largest along the keys, from any starting value. -/
theorem largest_at (p : FVec Ideal S2x1024x1024x8 .f32) (c : FVec Ideal S_ .f32) (i : Fin 2) (n : Fin 1024) (h : Fin 8) :
    Host.reduce FloatOps.maximumf p c reducesTo_S2x1024x1024x8_S2x1024x8_d2 h_S_ (ix3 i n h)
      = Finset.univ.fold max (c (Shape.Idx.first h_S_)) fun l : Fin 1024 => p (ix4 i n l h) := by
  pointwise

/-- The largest score of a query in a head is the maximum over the keys. -/
theorem rowTop_at (p : FVec Ideal S2x1024x1024x8 .f32) (i : Fin 2) (n : Fin 1024) (h : Fin 8) :
    rowTop p (ix3 i n h) = Finset.univ.fold max (⊥ : EReal) fun l : Fin 1024 => p (ix4 i n l h) := by
  have e1 : ∀ (a b : FVec Ideal S2x1024x8 .f32) (j), maximumf a b j = max (a j : EReal) (b j) := fun _ _ _ => rfl
  have e2 : ∀ j, broadcastInDim S2x1024x8 ![] bcast_S_S2x1024x8 (constant (F := Ideal) S_ .f32 0xFF800000#32) j = (⊥ : EReal) := fun _ => ofBits_neg_inf
  have e3 : ∀ j, constant (F := Ideal) S_ .f32 0xFF800000#32 j = (⊥ : EReal) := fun _ => ofBits_neg_inf
  rw [rowTop, e1, e2, largest_at, e3]
  exact max_bot_left _

/-- Repeated along the keys, a number is the same at every key. -/
theorem alongKeys_at (t : FVec Ideal S2x1024x8 .f32) (i : Fin 2) (n k : Fin 1024) (h : Fin 8) : alongKeys t (ix4 i n k h) = t (ix3 i n h) := by
  pointwise [alongKeys]

/-- An entry of the sum over the keys is that sum. -/
theorem rowSum_at (e : FVec Ideal S2x1024x1024x8 .f32) (i : Fin 2) (n : Fin 1024) (h : Fin 8) :
    rowSum e (ix3 i n h) = ∑ k : Fin 1024, e (ix4 i n k h) := by
  pointwise [rowSum]

/-- An entry of the shifted exponentials is `e` to the score less the largest score of its query and head. -/
theorem shifted_at (p : FVec Ideal S2x1024x1024x8 .f32) (i : Fin 2) (n k : Fin 1024) (h : Fin 8) :
    shifted p (ix4 i n k h) = Ideal.exp (p (ix4 i n k h) - Finset.univ.fold max (⊥ : EReal) fun l : Fin 1024 => p (ix4 i n l h)) := by
  rw [← rowTop_at]
  pointwise [shifted, alongKeys_at]

/-- A weight is the shifted exponential over the sum of them along the keys. -/
theorem weights_at (p : FVec Ideal S2x1024x1024x8 .f32) (i : Fin 2) (n k : Fin 1024) (h : Fin 8) :
    weights p (ix4 i n k h) = Ideal.div (shifted p (ix4 i n k h)) (∑ l : Fin 1024, shifted p (ix4 i n l h)) := by
  rw [← rowSum_at]
  pointwise [weights, alongKeys_at]

/-- An entry of the mixed values is the sum over the keys of value times weight. -/
theorem mix_at (v : FVec Ideal S2x1024x8x64 .f32) (a : FVec Ideal S2x1024x1024x8 .f32) (i : Fin 2) (n : Fin 1024) (h : Fin 8) (d : Fin 64) :
    mix v a (ix3 i n (lane h d)) = ∑ k : Fin 1024, v (ix4 i k h d) * a (ix4 i n k h) := by
  pointwise [mix, lane]

/-- The score of the stages is the attention's. -/
theorem score_entry (A : Inputs) (i : Fin 2) (n k : Fin 1024) (h : Fin 8) :
    scores (pair3 (gate (pair2 (gate (pair1 A.G A.W1 A.b1)) A.W2 A.b2)) A.W3 A.b3) (heads (proj A.X A.Wk A.bk)) (heads (proj A.X A.Wq A.bq)) (fun _ => 1#1) (ix4 i n k h)
      = A.score i n k h := by
  simp only [scores_at _ _ _ _ rfl, pair3_at, gate_at, pair2_at, pair1_at, heads_at, proj_at]
  rfl

/-- Where no point is masked, the reference's result is the attention of its inputs. -/
theorem attention_at (A : Inputs) (i : Fin 2) (n : Fin 1024) (e : Fin 512) : attention A (fun _ => 1#1) (ix3 i n e) = A.out i n e := by
  rw [attention, proj_at, layer, Inputs.out]
  refine congrArg (· + _) ((Fin.sum_univ_tiles 8 64 rfl _).trans (Finset.sum_congr rfl fun h _ => Finset.sum_congr rfl fun d _ => ?_))
  have e0 : (⟨h.val * 64 + d.val, by omega⟩ : Fin 512) = lane h d := Fin.ext (congrArg (· + d.val) (Nat.mul_comm h.val 64))
  refine (congrArg (fun f => mix _ _ (ix3 i n f) * A.Wout (ix2 f e)) e0).trans (congrArg (· * _) ?_)
  rw [mix_at]
  simp only [weights_at, shifted_at, score_entry, heads_at, proj_at]
  rfl

end Cert.Attn.Ref

end
-- ==== Proof.Payload.lean ====
module

public import proofs.«01_k».proof.Proof.Spec
public import proofs.«01_k».proof.Proof.Gen.KernelIdeal.Skeleton
public import Idealize.ShloMosaic.Lib.Pipeline.ValueKit

@[expose] public section

set_option maxRecDepth 16384

noncomputable section

namespace Cert.Attn.Ker

open Idealize.ShloMosaic Idealize.ShloMosaic.TcCoe Idealize.SL.Sem
open Cert.KernelIdeal Cert.KernelIdeal.Gen

/-! # What one block of the kernel computes

Each stored value read at an entry, over whatever arrays the block reads. -/

/-- A query block's projection, scaled by 1/8. -/
theorem query_at (x : FVec Ideal S1x256x512 .f32) (w : FVec Ideal S512x512 .f32) (b : FVec Ideal S1x512 .f32) (r : Fin 256) (e : Fin 512) :
    k0_pay5 (F := Ideal) x w b (ix2 r e) = (∑ f, x (ix3 0 r f) * w (ix2 f e) + b (ix2 0 e)) * Ideal.ofBits .f32 0x3E000000#32 := by
  pointwise [k0_pay5]

/-- The keys' projection. -/
theorem key_at (x : FVec Ideal S1x1024x512 .f32) (w : FVec Ideal S512x512 .f32) (b : FVec Ideal S1x512 .f32) (k : Fin 1024) (e : Fin 512) :
    k0_pay3 (F := Ideal) x w b (ix2 k e) = ∑ f, x (ix3 0 k f) * w (ix2 f e) + b (ix2 0 e) := by
  pointwise [k0_pay3, k0_pay2]

/-- The values' projection. -/
theorem val_at (x : FVec Ideal S1x1024x512 .f32) (w : FVec Ideal S512x512 .f32) (b : FVec Ideal S1x512 .f32) (k : Fin 1024) (e : Fin 512) :
    k0_pay4 (F := Ideal) x w b (ix2 k e) = ∑ f, x (ix3 0 k f) * w (ix2 f e) + b (ix2 0 e) := by
  pointwise [k0_pay4, k0_pay2]

/-- The pair of a query row and a key sits in one of the 262144 columns. -/
def pair (r : Fin 256) (k : Fin 1024) : Fin 262144 := ⟨r * 1024 + k, by omega⟩

/-- The kernel's swish of a number. -/
def swishTanh (x : EReal) : EReal :=
  Ideal.ofBits .f32 0x3F000000#32 * x * Ideal.tanh (Ideal.ofBits .f32 0x3F000000#32 * x) + Ideal.ofBits .f32 0x3F000000#32 * x

/-- The first two layers' products, for one pair. -/
theorem hidden_at (g : FVec Ideal S1x6x256x1024 .f32) (w1 : FVec Ideal S6x16 .f32) (b1 : FVec Ideal S16x1 .f32) (w2 : FVec Ideal S16x16 .f32)
    (j : Fin 16) (r : Fin 256) (k : Fin 1024) :
    k0_pay6 (F := Ideal) g w1 b1 w2 (ix2 j (pair r k))
      = ∑ l, w2 (ix2 l j) * swishTanh (∑ f, w1 (ix2 f l) * g (ix4 0 f r k) + b1 (ix2 l 0)) := by
  pointwise [k0_pay6, swishTanh, pair]

/-- The third layer from the second's product. -/
theorem loc_at (x : FVec Ideal S16x262144 .f32) (b2 : FVec Ideal S16x1 .f32) (w3 : FVec Ideal S16x8 .f32) (b3 : FVec Ideal S8x1 .f32)
    (h : Fin 8) (c : Fin 262144) :
    k0_pay7 (F := Ideal) x b2 w3 b3 (ix2 h c) = ∑ l, w3 (ix2 l h) * swishTanh (x (ix2 l c) + b2 (ix2 l 0)) + b3 (ix2 h 0) := by
  pointwise [k0_pay7, swishTanh]

/-- The 64 columns of head `h`. -/
def headOf (K : FVec Ideal S1024x512 .f32) (h : Fin 8) : FVec Ideal S1024x64 .f32 := fun j => K (ix2 (j 0) (lane h (j 1)))

/-- The exponential of the score of every head, query row and key of the block. -/
def expScores (q : FVec Ideal S256x512 .f32) (l : FVec Ideal S8x262144 .f32) (kk : Fin 8 → FVec Ideal S1024x64 .f32) : FVec Ideal S8x256x1024 .f32 :=
  k0_pay15 q l (k0_pay8 q (kk 0)) (k0_pay9 q (kk 1)) (k0_pay10 q (kk 2)) (k0_pay11 q (kk 3)) (k0_pay12 q (kk 4)) (k0_pay13 q (kk 5)) (k0_pay14 q) (kk 6) (kk 7)

/-- One head's entry of it, the same for every head. -/
theorem expScores_at (q : FVec Ideal S256x512 .f32) (l : FVec Ideal S8x262144 .f32) (kk : Fin 8 → FVec Ideal S1024x64 .f32)
    (h : Fin 8) (r : Fin 256) (k : Fin 1024) :
    expScores q l kk (ix3 h r k) = Ideal.exp (l (ix2 h (pair r k)) + ∑ d, q (ix2 r (lane h d)) * kk h (ix2 k d)) := by
  pointwise [expScores, k0_pay15, k0_pay8, k0_pay9, k0_pay10, k0_pay11, k0_pay12, k0_pay13, k0_pay14, lane, pair]
  fin_vals h with hh
  all_goals simp only [hh, Nat.reduceSub, Nat.reduceLT, ↓reduceDIte]
  all_goals (obtain ⟨v, hv⟩ := h; simp only at hh; subst hh; rfl)

/-- The block before the output bias: every head's weighted values over the sum of its weights, the heads side by side,
    through the output weights. -/
def mixOut (q : FVec Ideal S256x512 .f32) (l : FVec Ideal S8x262144 .f32) (kk vv : Fin 8 → FVec Ideal S1024x64 .f32) (w : FVec Ideal S512x512 .f32) : FVec Ideal S256x512 .f32 :=
  k0_pay20 (k0_pay15 q l (k0_pay8 q (kk 0)) (k0_pay9 q (kk 1)) (k0_pay10 q (kk 2)) (k0_pay11 q (kk 3)) (k0_pay12 q (kk 4)) (k0_pay13 q (kk 5)) (k0_pay14 q) (kk 6) (kk 7))
    (k0_pay16 q l (k0_pay8 q (kk 0)) (k0_pay9 q (kk 1)) (k0_pay10 q (kk 2)) (k0_pay11 q (kk 3)) (k0_pay12 q (kk 4)) (k0_pay13 q (kk 5)) (k0_pay14 q) (kk 6) (kk 7))
    (k0_pay17 q l (k0_pay8 q (kk 0)) (k0_pay9 q (kk 1)) (k0_pay10 q (kk 2)) (k0_pay11 q (kk 3)) (k0_pay12 q (kk 4)) (k0_pay13 q (kk 5)) (k0_pay14 q) (kk 6) (kk 7) (vv 0))
    (k0_pay18 q l (k0_pay8 q (kk 0)) (k0_pay9 q (kk 1)) (k0_pay10 q (kk 2)) (k0_pay11 q (kk 3)) (k0_pay12 q (kk 4)) (k0_pay13 q (kk 5)) (k0_pay14 q) (kk 6) (kk 7) (vv 1))
    (k0_pay19 q l (k0_pay8 q (kk 0)) (k0_pay9 q (kk 1)) (k0_pay10 q (kk 2)) (k0_pay11 q (kk 3)) (k0_pay12 q (kk 4)) (k0_pay13 q (kk 5)) (k0_pay14 q) (kk 6) (kk 7) (vv 2))
    (vv 3) (vv 4) (vv 5) (vv 6) (vv 7) w

set_option maxHeartbeats 1600000 in
/-- An entry of it, a sum over the heads and their 64 entries. -/
theorem mixOut_at (q : FVec Ideal S256x512 .f32) (l : FVec Ideal S8x262144 .f32) (kk vv : Fin 8 → FVec Ideal S1024x64 .f32) (w : FVec Ideal S512x512 .f32)
    (r : Fin 256) (e : Fin 512) :
    mixOut q l kk vv w (ix2 r e)
      = ∑ h : Fin 8, ∑ d : Fin 64, Ideal.div (∑ k : Fin 1024, expScores q l kk (ix3 h r k) * vv h (ix2 k d)) (∑ k : Fin 1024, expScores q l kk (ix3 h r k)) * w (ix2 (lane h d) e) := by
  pointwise [mixOut, k0_pay20, k0_pay16, k0_pay17, k0_pay18, k0_pay19]
  refine (Fin.sum_univ_tiles 8 64 rfl _).trans (Finset.sum_congr rfl fun h _ => Finset.sum_congr rfl fun d _ => ?_)
  have hd := d.isLt
  refine Ideal.mul_congr ?_ (congrArg w (congrArg (fun c => ix2 c e) (Fin.ext (congrArg (· + d.val) (Nat.mul_comm h.val 64)))))
  fin_vals h with hh
  all_goals simp (disch := omega) only [hh, dif_pos, dif_neg]
  all_goals obtain ⟨v, hv⟩ := h; simp only at hh; subst hh
  all_goals exact congrArg₂ Ideal.div (Finset.sum_congr rfl fun k _ => Ideal.mul_congr rfl (congrArg (vv _) (congrArg (ix2 k) (Fin.ext (by simp only; omega))))) rfl

end Cert.Attn.Ker

end
-- ==== Proof.Block.lean ====
module

public import proofs.«01_k».proof.Proof.Payload

@[expose] public section

set_option maxRecDepth 16384

noncomputable section

namespace Cert.Attn.Ker

open Idealize.ShloMosaic Idealize.ShloMosaic.TcCoe Idealize.SL.Sem
open Cert.KernelIdeal Cert.KernelIdeal.Gen

/-! # A whole block

The stored block from the arrays it reads, and its entries as the attention's. -/

/-- The block of results: query rows `x`, their pairs' features `g`, the weights, and the keys and values of all points. -/
def block (x : FVec Ideal S1x256x512 .f32) (g : FVec Ideal S1x6x256x1024 .f32) (w1 : FVec Ideal S6x16 .f32) (b1 : FVec Ideal S16x1 .f32)
    (w2 : FVec Ideal S16x16 .f32) (b2 : FVec Ideal S16x1 .f32) (w3 : FVec Ideal S16x8 .f32) (b3 : FVec Ideal S8x1 .f32)
    (wq : FVec Ideal S512x512 .f32) (bq : FVec Ideal S1x512 .f32) (K V : FVec Ideal S1024x512 .f32) (wo : FVec Ideal S512x512 .f32) (bo : FVec Ideal S1x512 .f32) :
    FVec Ideal S1x256x512 .f32 :=
  k0_pay1 (mixOut (k0_pay5 x wq bq) (k0_pay7 (k0_pay6 g w1 b1 w2) b2 w3 b3) (headOf K) (headOf V) wo) bo

/-- Adding the output bias. -/
theorem biased_at (v : FVec Ideal S256x512 .f32) (b : FVec Ideal S1x512 .f32) (r : Fin 256) (e : Fin 512) :
    k0_pay1 (F := Ideal) v b (ix3 0 r e) = v (ix2 r e) + b (ix2 0 e) := by
  pointwise [k0_pay1]

/-- The kernel's layers over a pair's features give the location score. -/
theorem loc_eq {A : Inputs} (hA : A.Real) (i : Fin 2) (n k : Fin 1024) (h : Fin 8) :
    ∑ l, A.W3 (ix2 l h) * swishTanh (∑ l', A.W2 (ix2 l' l) * swishTanh (∑ f, A.W1 (ix2 f l') * A.G (ix4 i n k f) + A.b1 (ix1 l')) + A.b2 (ix1 l)) + A.b3 (ix1 h)
      = A.loc i n k h := by
  have e1 : ∀ l', swishTanh (∑ f, A.W1 (ix2 f l') * A.G (ix4 i n k f) + A.b1 (ix1 l')) = swish (layer A.W1 A.b1 (fun f => A.G (ix4 i n k f)) l') := by
    intro l'
    rw [← swish_tanh (hA.hidden1 i n k l'), layer, swishTanh]
    simp only [mul_comm (A.W1 _)]
  have e2 : ∀ l, swishTanh (∑ l', A.W2 (ix2 l' l) * swish (layer A.W1 A.b1 (fun f => A.G (ix4 i n k f)) l') + A.b2 (ix1 l))
      = swish (layer A.W2 A.b2 (fun l' => swish (layer A.W1 A.b1 (fun f => A.G (ix4 i n k f)) l')) l) := by
    intro l
    rw [← swish_tanh (hA.hidden2 i n k l), layer, swishTanh]
    simp only [mul_comm (A.W2 _)]
  simp only [e1, e2]
  exact congrArg (· + _) (Finset.sum_congr rfl fun l _ => mul_comm _ _)

/-- An entry of the block is the attention's, where what the block reads are the attention's inputs, its keys and its values. -/
theorem block_at {A : Inputs} (hA : A.Real) (i : Fin 2) (row : Fin 256 → Fin 1024)
    {x : FVec Ideal S1x256x512 .f32} {g : FVec Ideal S1x6x256x1024 .f32} {b1 b2 : FVec Ideal S16x1 .f32} {b3 : FVec Ideal S8x1 .f32}
    {bq bo : FVec Ideal S1x512 .f32} {K V : FVec Ideal S1024x512 .f32}
    (hx : ∀ r f, x (ix3 0 r f) = A.X (ix3 i (row r) f)) (hg : ∀ f r k, g (ix4 0 f r k) = A.G (ix4 i (row r) k f))
    (hb1 : ∀ l, b1 (ix2 l 0) = A.b1 (ix1 l)) (hb2 : ∀ l, b2 (ix2 l 0) = A.b2 (ix1 l)) (hb3 : ∀ l, b3 (ix2 l 0) = A.b3 (ix1 l))
    (hbq : ∀ e, bq (ix2 0 e) = A.bq (ix1 e)) (hbo : ∀ e, bo (ix2 0 e) = A.bout (ix1 e))
    (hK : ∀ k e, K (ix2 k e) = A.key i k e) (hV : ∀ k e, V (ix2 k e) = A.val i k e) (r : Fin 256) (e : Fin 512) :
    block x g A.W1 b1 A.W2 b2 A.W3 b3 A.Wq bq K V A.Wout bo (ix3 0 r e) = A.out i (row r) e := by
  have hE : ∀ h k, expScores (k0_pay5 x A.Wq bq) (k0_pay7 (k0_pay6 g A.W1 b1 A.W2) b2 A.W3 b3) (headOf K) (ix3 h r k) = Ideal.exp (A.score i (row r) k h) := by
    intro h k
    rw [expScores_at, hA.score_eq, loc_at]
    simp only [hidden_at, query_at, hb1, hb2, hb3, hbq, hx, hg, loc_eq hA]
    exact congrArg Ideal.exp (congrArg _ (Finset.sum_congr rfl fun d _ => congrArg _ (hK k (lane h d))))
  rw [block, biased_at, mixOut_at, hbo, Inputs.out]
  refine congrArg (· + _) (Finset.sum_congr rfl fun h _ => Finset.sum_congr rfl fun d _ => congrArg (· * _) ?_)
  simp only [hE]
  rw [← hA.mixed_eq]
  exact congrArg (Ideal.div · _) (Finset.sum_congr rfl fun k _ => congrArg _ (hV k (lane h d)))

end Cert.Attn.Ker

end
-- ==== Proof.Points.lean ====
module

public import proofs.«01_k».proof.Proof.Block
public import proofs.«01_k».proof.Proof.Gen.KernelIdeal.Value
public import Idealize.ShloMosaic.Lib.Pipeline.ReadBack

@[expose] public section

set_option maxRecDepth 16384

noncomputable section

namespace Cert.Attn.Ker

open Idealize.ShloMosaic Idealize.ShloMosaic.TcCoe Idealize.SL.Sem
open Cert.KernelIdeal Cert.KernelIdeal.Gen

/-! # What each grid point leaves

The output block and the carried keys and values after a grid point, as the functions of `Block` over the blocks that
the point reads. -/

variable (m : (ℓ : Loc nD τ sig) → Buf (Elt Ideal) ℓ)

/-- The 256 query rows of grid point `t`. -/
def queryRows (x : FVec Ideal S1x1024x512 .f32) (t : ℕ) : FVec Ideal S1x256x512 .f32 :=
  fun j => x (ix3 0 ⟨256 * (t % 4) + (j 1).val, by have := (j 1).isLt; change (j 1).val < 256 at this; omega⟩ (j 2))

/-- Where a point's query rows start. -/
theorem offset : ∀ t : Fin cfg0.N, k0_off1 (grid0.coords t) = ![0, 256 * (t.val % 4), 0] := (by decide +kernel : ∀ t : Fin grid0.N, _)

/-- The load of 64 columns is the head there. -/
theorem load_head (K : FVec Ideal S1024x512 .f32) (h : Fin 8) (o : ℕ) (inb : ∀ a, ![0, o] a + ![1024, 64] a ≤ S1024x512.size a) (ho : o = 64 * h.val) :
    (View.ld (Val := Elt Ideal) (S := S1024x512) (e' := .f32) K (Rect.unit ![0, o] ![1024, 64] inb) : FVec Ideal S1024x64 .f32) = headOf K h := by
  subst ho
  funext j
  refine View.ld_unit_apply_of (Val := Elt Ideal) (e := .f32) K _ _ inb j _ fun a => ?_
  match a with
  | ⟨0, _⟩ => exact (Nat.zero_add _).symm
  | ⟨1, _⟩ => rfl

/-- The load of a point's query rows. -/
theorem load_rows (X : FVec Ideal S1x1024x512 .f32) (t : Fin cfg0.N) (inb : ∀ a, k0_off1 (grid0.coords t) a + ![1, 256, 512] a ≤ S1x1024x512.size a) :
    (View.ld (Val := Elt Ideal) (S := S1x1024x512) (e' := .f32) X (Rect.unit (k0_off1 (grid0.coords t)) ![1, 256, 512] inb) : FVec Ideal S1x256x512 .f32) = queryRows X t := by
  funext j
  refine View.ld_unit_apply_of (Val := Elt Ideal) (e := .f32) X _ _ inb j _ fun a => ?_
  refine Eq.trans ?_ (congrArg (· + (j a).val) (congrFun (offset t) a).symm)
  match a with
  | ⟨0, _⟩ => have := (j 0).isLt; change (j 0).val < 1 at this; change 0 = 0 + (j 0).val; omega
  | ⟨1, _⟩ => rfl
  | ⟨2, _⟩ => exact (Nat.zero_add _).symm

/-- A point that starts a batch leaves the block over the keys and values that it projects itself. -/
theorem block_A (c : Dev nD) (t : Fin cfg0.N) (h : t.val % 4 = 0) :
    (outsAt0 m c t.val t.isLt).1 = block (queryRows (iblk m c 1 t) t) (iblk m c 0 t) (iblk m c 2 t) (iblk m c 3 t) (iblk m c 4 t) (iblk m c 5 t)
      (iblk m c 6 t) (iblk m c 7 t) (iblk m c 8 t) (iblk m c 9 t) (k0_pay3 (iblk m c 1 t) (iblk m c 10 t) (iblk m c 11 t))
      (k0_pay4 (iblk m c 1 t) (iblk m c 12 t) (iblk m c 13 t)) (iblk m c 14 t) (iblk m c 15 t) := by
  rw [outsAt0_A m c t h]
  funext y
  frame_out [out0_A_16]
  rw [load_rows]
  have hz : ∀ a : Fin S1024x512.rank, (![0, 0] : Fin S1024x512.rank → ℕ) a = 0 := fun a => match a with
    | ⟨0, _⟩ => rfl
    | ⟨1, _⟩ => rfl
  simp only [View.readCov_fill (s := S1024x512) _ _ _ _ _ hz]
  simp only [load_head _ 0 0 _ rfl, load_head _ 1 64 _ rfl, load_head _ 2 128 _ rfl, load_head _ 3 192 _ rfl, load_head _ 4 256 _ rfl, load_head _ 5 320 _ rfl,
    load_head _ 6 384 _ rfl, load_head _ 7 448 _ rfl]
  rfl

/-- A point that starts a batch leaves the keys, projected from all of the batch's points, in the first scratch array. -/
theorem block_K (c : Dev nD) (t : Fin cfg0.N) (h : t.val % 4 = 0) :
    (outsAt0 m c t.val t.isLt).2.1 = k0_pay3 (iblk m c 1 t) (iblk m c 10 t) (iblk m c 11 t) := by
  rw [outsAt0_A m c t h]
  funext y
  frame_out [sout0_A_0]

/-- A point that starts a batch leaves the values, projected from all of the batch's points, in the second scratch array. -/
theorem block_V (c : Dev nD) (t : Fin cfg0.N) (h : t.val % 4 = 0) :
    (outsAt0 m c t.val t.isLt).2.2 = k0_pay4 (iblk m c 1 t) (iblk m c 12 t) (iblk m c 13 t) := by
  rw [outsAt0_A m c t h]
  funext y
  frame_out [sout0_A_1]

/-- Any other point leaves the block over the keys and values that the point before left. -/
theorem block_B (c : Dev nD) (t : Fin cfg0.N) (h : ¬ t.val % 4 = 0) (t' : ℕ) (ht : t' < cfg0.N) (e : t' = t.val - 1) :
    (outsAt0 m c t.val t.isLt).1 = block (queryRows (iblk m c 1 t) t) (iblk m c 0 t) (iblk m c 2 t) (iblk m c 3 t) (iblk m c 4 t) (iblk m c 5 t)
      (iblk m c 6 t) (iblk m c 7 t) (iblk m c 8 t) (iblk m c 9 t) (outsAt0 m c t' ht).2.1 (outsAt0 m c t' ht).2.2 (iblk m c 14 t) (iblk m c 15 t) := by
  subst e
  rw [outsAt0_B m c t h]
  funext y
  frame_out [out0_B_16]
  simp only [read_unread_whole]
  rw [load_rows]
  simp only [load_head _ 0 0 _ rfl, load_head _ 1 64 _ rfl, load_head _ 2 128 _ rfl, load_head _ 3 192 _ rfl, load_head _ 4 256 _ rfl, load_head _ 5 320 _ rfl,
    load_head _ 6 384 _ rfl, load_head _ 7 448 _ rfl]
  rfl

/-- Any other point leaves both scratch arrays as the point before left them. -/
theorem keep_B (c : Dev nD) (t : Fin cfg0.N) (h : ¬ t.val % 4 = 0) (t' : ℕ) (ht : t' < cfg0.N) (e : t' = t.val - 1) :
    (outsAt0 m c t.val t.isLt).2 = (outsAt0 m c t' ht).2 := by
  subst e
  rw [outsAt0_B m c t h]
  rfl

end Cert.Attn.Ker

end
-- ==== Proof.Reads.lean ====
module

public import proofs.«01_k».proof.Proof.Points
public import Idealize.ShloMosaic.Lib.Claim

@[expose] public section

set_option maxRecDepth 16384

noncomputable section

namespace Cert.Attn.Ker

open Idealize.ShloMosaic Idealize.ShloMosaic.TcCoe Idealize.SL.Sem
open Cert.KernelIdeal Cert.KernelIdeal.Gen

/-! # What each grid point reads

The blocks of a grid point as the kernel's arguments: features of the point's 256 queries against all keys, the batch's
points, the weights whole and the biases as columns and rows. -/

variable (m : (ℓ : Loc nD τ sig) → Buf (Elt Ideal) ℓ)

/-- The inputs in the kernel's memory. -/
def inputs (c : Dev nD) : Inputs where
  G := m ((c.tc : Thread nD τ).loc main_arg0)
  X := m ((c.tc : Thread nD τ).loc main_arg1)
  W1 := m ((c.tc : Thread nD τ).loc main_arg3)
  b1 := m ((c.tc : Thread nD τ).loc main_arg4)
  W2 := m ((c.tc : Thread nD τ).loc main_arg5)
  b2 := m ((c.tc : Thread nD τ).loc main_arg6)
  W3 := m ((c.tc : Thread nD τ).loc main_arg7)
  b3 := m ((c.tc : Thread nD τ).loc main_arg8)
  Wq := m ((c.tc : Thread nD τ).loc main_arg9)
  bq := m ((c.tc : Thread nD τ).loc main_arg10)
  Wk := m ((c.tc : Thread nD τ).loc main_arg11)
  bk := m ((c.tc : Thread nD τ).loc main_arg12)
  Win := m ((c.tc : Thread nD τ).loc main_arg13)
  bin := m ((c.tc : Thread nD τ).loc main_arg14)
  Wout := m ((c.tc : Thread nD τ).loc main_arg15)
  bout := m ((c.tc : Thread nD τ).loc main_arg16)

/-- Where each window's block of a grid point sits. -/
theorem idx : ∀ t : Fin cfg0.N, win0_0.index t = ![t.val / 4, 0, t.val % 4, 0] ∧ win0_1.index t = ![t.val / 4, 0, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0] ∧ win0_12.index t = ![0, 0]
    ∧ win0_13.index t = ![0, 0] ∧ win0_14.index t = ![0, 0] ∧ win0_15.index t = ![0, 0] ∧ win0_16.index t = ![t.val / 4, t.val % 4, 0] ∧ t.val / 4 < 2 :=
  (by decide +kernel : ∀ t : Fin grid0.N, _)

/-- The batch of a grid point. -/
def batch (t : Fin cfg0.N) : Fin 2 := ⟨t.val / 4, (idx t).2.2.2.2.2.2.2.2.2.2.2.2.2.2.2.2.2⟩

/-- The point that row `r` of a grid point's queries is. -/
def row (t : Fin cfg0.N) (r : Fin 256) : Fin 1024 := ⟨256 * (t.val % 4) + r, by omega⟩

/-- Window 1 holds the features of all points of the batch. -/
theorem read1 (c : Dev nD) (t : Fin cfg0.N) (n : Fin 1024) (f : Fin 512) :
    (show FVec Ideal S1x1024x512 .f32 from iblk m c 1 t) (ix3 0 n f) = (inputs m c).X (ix3 (batch t) n f) := by
  blk_ext [iblk, V, idx t, inputs, batch]

/-- Window 2 holds all of the first layer's weights. -/
theorem read2 (c : Dev nD) (t : Fin cfg0.N) : iblk m c 2 t = (inputs m c).W1 := by blk_ext! [iblk, V, idx t, inputs]

/-- Window 3 holds the first layer's bias as a column. -/
theorem read3 (c : Dev nD) (t : Fin cfg0.N) (l : Fin 16) :
    (show FVec Ideal S16x1 .f32 from iblk m c 3 t) (ix2 l 0) = (inputs m c).b1 (ix1 l) := by
  blk_simp [iblk, idx t, inputs]
  entry_read
  pointwise
  blk_ext [idx t]

/-- Window 4 holds all of the second layer's weights. -/
theorem read4 (c : Dev nD) (t : Fin cfg0.N) : iblk m c 4 t = (inputs m c).W2 := by blk_ext! [iblk, V, idx t, inputs]

/-- Window 5 holds the second layer's bias as a column. -/
theorem read5 (c : Dev nD) (t : Fin cfg0.N) (l : Fin 16) :
    (show FVec Ideal S16x1 .f32 from iblk m c 5 t) (ix2 l 0) = (inputs m c).b2 (ix1 l) := by
  blk_simp [iblk, idx t, inputs]
  entry_read
  pointwise
  blk_ext [idx t]

/-- Window 6 holds all of the third layer's weights. -/
theorem read6 (c : Dev nD) (t : Fin cfg0.N) : iblk m c 6 t = (inputs m c).W3 := by blk_ext! [iblk, V, idx t, inputs]

/-- Window 7 holds the third layer's bias as a column. -/
theorem read7 (c : Dev nD) (t : Fin cfg0.N) (l : Fin 8) :
    (show FVec Ideal S8x1 .f32 from iblk m c 7 t) (ix2 l 0) = (inputs m c).b3 (ix1 l) := by
  blk_simp [iblk, idx t, inputs]
  entry_read
  pointwise
  blk_ext [idx t]

/-- Window 8 holds all of the query weights. -/
theorem read8 (c : Dev nD) (t : Fin cfg0.N) : iblk m c 8 t = (inputs m c).Wq := by blk_ext! [iblk, V, idx t, inputs]

/-- Window 9 holds the query bias as a row. -/
theorem read9 (c : Dev nD) (t : Fin cfg0.N) (l : Fin 512) :
    (show FVec Ideal S1x512 .f32 from iblk m c 9 t) (ix2 0 l) = (inputs m c).bq (ix1 l) := by
  blk_simp [iblk, idx t, inputs]
  entry_read
  pointwise
  blk_ext [idx t]

/-- Window 10 holds all of the key weights. -/
theorem read10 (c : Dev nD) (t : Fin cfg0.N) : iblk m c 10 t = (inputs m c).Wk := by blk_ext! [iblk, V, idx t, inputs]

/-- Window 11 holds the key bias as a row. -/
theorem read11 (c : Dev nD) (t : Fin cfg0.N) (l : Fin 512) :
    (show FVec Ideal S1x512 .f32 from iblk m c 11 t) (ix2 0 l) = (inputs m c).bk (ix1 l) := by
  blk_simp [iblk, idx t, inputs]
  entry_read
  pointwise
  blk_ext [idx t]

/-- Window 12 holds all of the value weights. -/
theorem read12 (c : Dev nD) (t : Fin cfg0.N) : iblk m c 12 t = (inputs m c).Win := by blk_ext! [iblk, V, idx t, inputs]

/-- Window 13 holds the value bias as a row. -/
theorem read13 (c : Dev nD) (t : Fin cfg0.N) (l : Fin 512) :
    (show FVec Ideal S1x512 .f32 from iblk m c 13 t) (ix2 0 l) = (inputs m c).bin (ix1 l) := by
  blk_simp [iblk, idx t, inputs]
  entry_read
  pointwise
  blk_ext [idx t]

/-- Window 14 holds all of the output weights. -/
theorem read14 (c : Dev nD) (t : Fin cfg0.N) : iblk m c 14 t = (inputs m c).Wout := by blk_ext! [iblk, V, idx t, inputs]

/-- Window 15 holds the output bias as a row. -/
theorem read15 (c : Dev nD) (t : Fin cfg0.N) (l : Fin 512) :
    (show FVec Ideal S1x512 .f32 from iblk m c 15 t) (ix2 0 l) = (inputs m c).bout (ix1 l) := by
  blk_simp [iblk, idx t, inputs]
  entry_read
  pointwise
  blk_ext [idx t]

/-- Window 0 holds the pairwise features of the point's 256 queries against all points, features first. -/
theorem read0 (c : Dev nD) (t : Fin cfg0.N) (f : Fin 6) (r : Fin 256) (k : Fin 1024) :
    (show FVec Ideal S1x6x256x1024 .f32 from iblk m c 0 t) (ix4 0 f r k) = (inputs m c).G (ix4 (batch t) (row t r) k f) := by
  blk_simp [iblk, idx t, inputs]
  entry_read
  pointwise
  blk_ext [idx t, batch, row]

end Cert.Attn.Ker

end
-- ==== Proof.Final.lean ====
module

public import proofs.«01_k».proof.Proof.Reads

@[expose] public section

set_option maxRecDepth 16384

noncomputable section

namespace Cert.Attn.Ker

open Idealize.ShloMosaic Idealize.ShloMosaic.TcCoe Idealize.SL.Sem
open Cert.KernelIdeal Cert.KernelIdeal.Gen

/-! # What the kernel's result holds

The carried keys and values after every grid point, the block that each point leaves, and the result array. -/

variable (m : (ℓ : Loc nD τ sig) → Buf (Elt Ideal) ℓ)

/-- After every grid point the carried arrays are the keys and the values of the point's batch: the batch's first point
    projects them, the others leave them. -/
theorem carried (c : Dev nD) (n : ℕ) : ∀ hn : n < cfg0.N,
    (∀ k e, (show FVec Ideal S1024x512 .f32 from (outsAt0 m c n hn).2.1) (ix2 k e) = (inputs m c).key (batch ⟨n, hn⟩) k e)
      ∧ ∀ k e, (show FVec Ideal S1024x512 .f32 from (outsAt0 m c n hn).2.2) (ix2 k e) = (inputs m c).val (batch ⟨n, hn⟩) k e := by
  induction n with
  | zero => intro hn; exact start ⟨0, hn⟩ rfl
  | succ n ih =>
    intro hn
    by_cases h : (n + 1) % 4 = 0
    · exact start ⟨n + 1, hn⟩ h
    · have e := keep_B m c ⟨n + 1, hn⟩ h n (Nat.lt_of_succ_lt hn) rfl
      have eb : batch ⟨n + 1, hn⟩ = batch ⟨n, Nat.lt_of_succ_lt hn⟩ := Fin.ext (by simp only [batch]; omega)
      rw [e, eb]
      exact ih _
where
  start (t : Fin cfg0.N) (h : t.val % 4 = 0) :
      (∀ k e, (show FVec Ideal S1024x512 .f32 from (outsAt0 m c t.val t.isLt).2.1) (ix2 k e) = (inputs m c).key (batch t) k e)
        ∧ ∀ k e, (show FVec Ideal S1024x512 .f32 from (outsAt0 m c t.val t.isLt).2.2) (ix2 k e) = (inputs m c).val (batch t) k e := by
    rw [block_K m c t h, block_V m c t h]
    constructor
    · intro k e
      refine (key_at _ _ _ k e).trans ?_
      rw [read10]
      exact congrArg₂ (· + ·) (Finset.sum_congr rfl fun f _ => congrArg (· * _) (read1 m c t k f)) (read11 m c t e)
    · intro k e
      refine (val_at _ _ _ k e).trans ?_
      rw [read12]
      exact congrArg₂ (· + ·) (Finset.sum_congr rfl fun f _ => congrArg (· * _) (read1 m c t k f)) (read13 m c t e)

/-- The block of a grid point over keys and values of its batch is the attention's. -/
theorem left_at (c : Dev nD) (hA : (inputs m c).Real) (t : Fin cfg0.N) (K V : FVec Ideal S1024x512 .f32)
    (hK : ∀ k e, K (ix2 k e) = (inputs m c).key (batch t) k e) (hV : ∀ k e, V (ix2 k e) = (inputs m c).val (batch t) k e) (r : Fin 256) (e : Fin 512) :
    block (queryRows (iblk m c 1 t) t) (iblk m c 0 t) (iblk m c 2 t) (iblk m c 3 t) (iblk m c 4 t) (iblk m c 5 t)
      (iblk m c 6 t) (iblk m c 7 t) (iblk m c 8 t) (iblk m c 9 t) K V (iblk m c 14 t) (iblk m c 15 t) (ix3 0 r e)
      = (inputs m c).out (batch t) (row t r) e := by
  rw [read2, read4, read6, read8, read14]
  exact block_at hA (batch t) (row t) (fun r f => read1 m c t (row t r) f) (read0 m c t) (read3 m c t) (read5 m c t) (read7 m c t) (read9 m c t)
    (read15 m c t) hK hV r e

/-- The block that every grid point leaves. -/
theorem point (c : Dev nD) (hA : (inputs m c).Real) (t : Fin cfg0.N) (r : Fin 256) (e : Fin 512) :
    (show FVec Ideal S1x256x512 .f32 from (outsAt0 m c t.val t.isLt).1) (ix3 0 r e) = (inputs m c).out (batch t) (row t r) e := by
  by_cases h : t.val % 4 = 0
  · obtain ⟨hK, hV⟩ := carried.start m c t h
    rw [block_K m c t h] at hK
    rw [block_V m c t h] at hV
    rw [block_A m c t h]
    exact left_at m c hA t _ _ hK hV r e
  · have ht : t.val - 1 < cfg0.N := Nat.lt_of_le_of_lt (Nat.sub_le _ _) t.isLt
    obtain ⟨hK, hV⟩ := carried m c (t.val - 1) ht
    have eb : batch ⟨t.val - 1, ht⟩ = batch t := Fin.ext (by simp only [batch]; omega)
    rw [eb] at hK hV
    rw [block_B m c t h (t.val - 1) ht rfl]
    exact left_at m c hA t _ _ hK hV r e

/-- The result array: the attention of the kernel's inputs, every entry. -/
theorem final (c : Dev nD) (hA : (inputs m c).Real) :
    (dats m 0 c).arrAt 16 cfg0.N = (fun j => (inputs m c).out (j 0) (j 1) (j 2) : FVec Ideal S2x1024x512 .f32) := by
  refine (dats m 0 c).arrAt_eq_of_covers 16 _ (by decide +kernel) fun t _ y => ?_
  blk_simp
  rw [after0_16]
  idx_vars y
  obtain rfl : y0 = 0 := Subsingleton.elim _ _
  have e : ((View.whole main_v8).slice (win0_16.rect t)).emb (ix3 0 y1 y2) = ix3 (batch t) (row t y1) y2 := by
    blk_ext [idx t, batch, row]
  rw [e]
  exact point m c hA t y1 y2

end Cert.Attn.Ker

end
-- ==== Proof.Precond.lean ====
module

public import proofs.«01_k».proof.Proof.Final
public import proofs.«01_k».proof.Defs
public import proofs.«01_k».proof.Proof.Gen.Pre_finite_unmasked

@[expose] public section

set_option maxRecDepth 16384

noncomputable section

namespace Cert.Attn

open Idealize.ShloMosaic Idealize.ShloMosaic.TcCoe Idealize.SL.Sem

/-! # What the precondition says

Every number that the scores are computed from is real, and no point is masked. -/

/-- An absolute value below infinity, as the precondition compares them, is a real number's. -/
theorem Finite.of_compared {S : Shape} (x : FVec Ideal S .f32) (hb : (⟨0, ![]⟩ : Shape).BroadcastsInDim S ![])
    (h : cmpf .olt (Host.absf x) (broadcastInDim S ![] hb (constant ⟨0, ![]⟩ .f32 0x7F800000#32)) = fun _ => 1#1) (j : S.Idx) : Finite (x j) := by
  have h1 : BitVec.ofBool (decide (max (x j) (-(x j)) < Ideal.ofBits .f32 0x7F800000#32)) = 1#1 := congrFun h j
  rw [ofBits_inf] at h1
  refine Finite.of_abs_lt ?_
  by_contra hn
  rw [decide_eq_false hn] at h1
  exact absurd h1 (by decide)

variable (m : (ℓ : Loc Cert.KernelIdeal.nD Cert.KernelIdeal.τ Cert.KernelIdeal.sig) → Buf (Elt Ideal) ℓ)

/-- Under the precondition no point is masked. -/
theorem unmasked (h : Cert.Pre_KernelIdeal_finite_unmasked m) (c : Dev Cert.KernelIdeal.nD) :
    m ((c.tc : Thread Cert.KernelIdeal.nD Cert.KernelIdeal.τ).loc Cert.KernelIdeal.main_arg2) = fun _ => 1#1 := (h c).1

/-- Under the precondition the numbers are real. -/
theorem real (h : Cert.Pre_KernelIdeal_finite_unmasked m) (c : Dev Cert.KernelIdeal.nD) : (Ker.inputs m c).Real := by
  obtain ⟨-, h1, h2, h3, h4, h5, h6, h7, h8, h9, h10, h11, h12⟩ := h c
  exact ⟨Finite.of_compared _ _ h1, Finite.of_compared _ _ h2, Finite.of_compared _ _ h3, Finite.of_compared _ _ h4, Finite.of_compared _ _ h5,
    Finite.of_compared _ _ h6, Finite.of_compared _ _ h7, Finite.of_compared _ _ h8, Finite.of_compared _ _ h9, Finite.of_compared _ _ h10,
    Finite.of_compared _ _ h11, Finite.of_compared _ _ h12⟩

end Cert.Attn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Pre_finite_unmasked
public import Idealize.ShloMosaic.Adequacy
public import Idealize.ShloMosaic.Init
public import Idealize.ShloMosaic.Lib.Claim
public import proofs.«01_k».proof.Proof.Reference
public import proofs.«01_k».proof.Proof.Precond

@[expose] public section

noncomputable section

namespace Cert.Proof

open Idealize.ShloMosaic Idealize.SL.Sem Cert.Kernel

/-- From the same arguments, under the precondition, the kernel's three results are the reference's: its result array is
    equal to the reference's, and the two arguments that both return are unchanged. -/
theorem algebraic : Cert.algebraic_KernelIdeal_ReferenceIdeal_pre_finite_unmasked := by
  pair_intro
  · run_from Cert.KernelIdeal.Value.run_blocks m g
  · run_from Cert.ReferenceIdeal.Value.run m' g'
    obtain ⟨h0, h1, h2, h3, h4, h5, h6, h7, h8, h9, h10, h11, h12, h13, h14, h15, h16⟩ := hagree c
    have e : Cert.Attn.Ref.inputs m' c = Cert.Attn.Ker.inputs m c := by
      simp only [Cert.Attn.Ref.inputs, Cert.Attn.Ker.inputs, h0, h1, h3, h4, h5, h6, h7, h8, h9, h10, h11, h12, h13, h14, h15, h16]
    have h : m' (c.tc.loc Cert.ReferenceIdeal.main_arg2) = fun _ => 1#1 := h2.trans (Cert.Attn.unmasked m hpre c)
    rw [Cert.Attn.Ref.run_eq, e, h]
    refine Eq.trans ?_ (Cert.Attn.Ker.final m c (Cert.Attn.real m hpre c)).symm
    funext j
    idx_vars j
    exact Cert.Attn.Ref.attention_at _ _ _ _

/-- The reference leaves its arguments unchanged and every counter at zero. -/
theorem reference_frame : Cert.quiescent_ReferenceIdeal := by
  intro m g _
  run_from Cert.ReferenceIdeal.Value.run m g
  · exact fun _ => by simp
  · exact sem_eq_zero_of_no_sems (sig := Cert.ReferenceIdeal.sig) (by decide) _

/-- The same under the precondition. -/
theorem reference_frame_pre : Cert.quiescent_ReferenceIdeal_pre_finite_unmasked :=
  fun m g _ => reference_frame m g trivial

/-- Every claim of the certificate. -/
theorem claim : Cert.Claim :=
  ⟨Cert.Kernel.Gen.facts, Cert.KernelIdeal.Gen.facts, Cert.ReferenceIdeal.Gen.facts, Cert.Pre_finite_unmasked.Gen.facts,
    fun m g _ => Cert.Kernel.Gen.frame m g, fun m g _ => Cert.KernelIdeal.Gen.frame m g,
    fun m g _ => Cert.KernelIdeal.Gen.frame m g, reference_frame, reference_frame_pre, trivial, algebraic⟩

end Cert.Proof

end
